-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x9x384x384 : Shape := ⟨4, ![16, 9, 384, 384]⟩
abbrev S16x23x384x384 : Shape := ⟨4, ![16, 23, 384, 384]⟩
abbrev S1x1 : Shape := ⟨2, ![1, 1]⟩
abbrev S1x9x384x384 : Shape := ⟨4, ![1, 9, 384, 384]⟩
abbrev S1x23x384x384 : Shape := ⟨4, ![1, 23, 384, 384]⟩
abbrev S2 : Shape := ⟨1, ![2]⟩
abbrev S384x384 : Shape := ⟨2, ![384, 384]⟩
abbrev S1x1x384x384 : Shape := ⟨4, ![1, 1, 384, 384]⟩
abbrev S1x384x384 : Shape := ⟨3, ![1, 384, 384]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 5
  | .smem => 1
  | _ => 0

abbrev bufTy : (tb : Table) → Fin (tcTables nBuf tb) → BufTy
  | .hbm, ⟨0, _⟩ => ⟨S16x9x384x384, .f32⟩
  | .hbm, ⟨1, _⟩ => ⟨S16x23x384x384, .f32⟩
  | .hbm, ⟨2, _⟩ => ⟨S1x1, .f32⟩
  | .hbm, ⟨3, _⟩ => ⟨S_, .f32⟩
  | .local _ .vmem, ⟨0, _⟩ => ⟨S1x9x384x384, .f32⟩
  | .local _ .vmem, ⟨1, _⟩ => ⟨S1x9x384x384, .f32⟩
  | .local _ .vmem, ⟨2, _⟩ => ⟨S1x23x384x384, .f32⟩
  | .local _ .vmem, ⟨3, _⟩ => ⟨S1x23x384x384, .f32⟩
  | .local _ .vmem, ⟨4, _⟩ => ⟨S1x1, .f32⟩
  | .local _ .smem, ⟨0, _⟩ => ⟨S2, .f32⟩
  | _, _ => ⟨S16x9x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x9x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x23x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16x9x384x384 : Shape := ⟨4, ![16, 9, 384, 384]⟩
abbrev S16x23x384x384 : Shape := ⟨4, ![16, 23, 384, 384]⟩
abbrev S5 : Shape := ⟨1, ![5]⟩
abbrev S4 : Shape := ⟨1, ![4]⟩
abbrev S3 : Shape := ⟨1, ![3]⟩
abbrev S16x8x384x384 : Shape := ⟨4, ![16, 8, 384, 384]⟩
abbrev S_ : Shape := ⟨0, ![]⟩
abbrev S384 : Shape := ⟨1, ![384]⟩
abbrev S1x1x384x1 : Shape := ⟨4, ![1, 1, 384, 1]⟩
abbrev S1x1x1x384 : Shape := ⟨4, ![1, 1, 1, 384]⟩
abbrev S16x8 : Shape := ⟨2, ![16, 8]⟩
abbrev S16x8x1 : Shape := ⟨3, ![16, 8, 1]⟩
abbrev S16x8x2 : Shape := ⟨3, ![16, 8, 2]⟩
abbrev S5x1 : Shape := ⟨2, ![5, 1]⟩
abbrev S16x5x384x384 : Shape := ⟨4, ![16, 5, 384, 384]⟩
abbrev S16x384x384 : Shape := ⟨3, ![16, 384, 384]⟩
abbrev S4x1 : Shape := ⟨2, ![4, 1]⟩
abbrev S16x4x384x384 : Shape := ⟨4, ![16, 4, 384, 384]⟩
abbrev S3x1 : Shape := ⟨2, ![3, 1]⟩
abbrev S16x3x384x384 : Shape := ⟨4, ![16, 3, 384, 384]⟩
abbrev S16x1x384x384 : Shape := ⟨4, ![16, 1, 384, 384]⟩

abbrev nBuf : Space → Nat
  | .hbm => 249
  | .vmem => 0
  | .smem => 0
  | _ => 0

abbrev hbmTy0_0 (i : Nat) : BufTy := match i % 128 with
  | 0 => ⟨S16x9x384x384, .f32⟩
  | 1 => ⟨S16x23x384x384, .f32⟩
  | 2 => ⟨S5, .i32⟩
  | 3 => ⟨S4, .i32⟩
  | 4 => ⟨S3, .i32⟩
  | 5 => ⟨S3, .i32⟩
  | 6 => ⟨S3, .i32⟩
  | 7 => ⟨S3, .i32⟩
  | 8 => ⟨S4, .i32⟩
  | 9 => ⟨S4, .i32⟩
  | 10 => ⟨S16x8x384x384, .f32⟩
  | 11 => ⟨S_, .f32⟩
  | 12 => ⟨S16x8x384x384, .f32⟩
  | 13 => ⟨S16x8x384x384, .i1⟩
  | 14 => ⟨S16x8x384x384, .f32⟩
  | 15 => ⟨S384, .f32⟩
  | 16 => ⟨S1x1x384x1, .f32⟩
  | 17 => ⟨S384, .f32⟩
  | 18 => ⟨S1x1x1x384, .f32⟩
  | 19 => ⟨S_, .f32⟩
  | 20 => ⟨S16x8, .f32⟩
  | 21 => ⟨S16x8x384x384, .f32⟩
  | 22 => ⟨S16x8x384x384, .f32⟩
  | 23 => ⟨S_, .f32⟩
  | 24 => ⟨S16x8, .f32⟩
  | 25 => ⟨S16x8x384x384, .f32⟩
  | 26 => ⟨S16x8x384x384, .f32⟩
  | 27 => ⟨S_, .f32⟩
  | 28 => ⟨S16x8, .f32⟩
  | 29 => ⟨S_, .f32⟩
  | 30 => ⟨S16x8, .f32⟩
  | 31 => ⟨S16x8, .i1⟩
  | 32 => ⟨S_, .f32⟩
  | 33 => ⟨S16x8, .f32⟩
  | 34 => ⟨S16x8, .f32⟩
  | 35 => ⟨S16x8, .f32⟩
  | 36 => ⟨S_, .f32⟩
  | 37 => ⟨S_, .f32⟩
  | 38 => ⟨S16x8, .f32⟩
  | 39 => ⟨S16x8, .f32⟩
  | 40 => ⟨S_, .f32⟩
  | 41 => ⟨S16x8, .f32⟩
  | 42 => ⟨S16x8, .i1⟩
  | 43 => ⟨S_, .f32⟩
  | 44 => ⟨S16x8, .f32⟩
  | 45 => ⟨S16x8, .f32⟩
  | 46 => ⟨S16x8, .f32⟩
  | 47 => ⟨S_, .f32⟩
  | 48 => ⟨S_, .f32⟩
  | 49 => ⟨S16x8, .f32⟩
  | 50 => ⟨S16x8, .f32⟩
  | 51 => ⟨S_, .f32⟩
  | 52 => ⟨S16x8, .f32⟩
  | 53 => ⟨S16x8, .i1⟩
  | 54 => ⟨S_, .f32⟩
  | 55 => ⟨S_, .f32⟩
  | 56 => ⟨S16x8, .f32⟩
  | 57 => ⟨S16x8, .f32⟩
  | 58 => ⟨S_, .f32⟩
  | 59 => ⟨S16x8, .f32⟩
  | 60 => ⟨S16x8, .i1⟩
  | 61 => ⟨S_, .f32⟩
  | 62 => ⟨S_, .f32⟩
  | 63 => ⟨S16x8, .f32⟩
  | 64 => ⟨S16x8, .f32⟩
  | 65 => ⟨S16x8x1, .f32⟩
  | 66 => ⟨S16x8x1, .f32⟩
  | 67 => ⟨S16x8x2, .f32⟩
  | 68 => ⟨S_, .i32⟩
  | 69 => ⟨S5, .i32⟩
  | 70 => ⟨S5, .i1⟩
  | 71 => ⟨S_, .i32⟩
  | 72 => ⟨S5, .i32⟩
  | 73 => ⟨S5, .i32⟩
  | 74 => ⟨S5, .i32⟩
  | 75 => ⟨S5x1, .i32⟩
  | 76 => ⟨S16x5x384x384, .f32⟩
  | 77 => ⟨S_, .f32⟩
  | 78 => ⟨S16x384x384, .f32⟩
  | 79 => ⟨S_, .i32⟩
  | 80 => ⟨S4, .i32⟩
  | 81 => ⟨S4, .i1⟩
  | 82 => ⟨S_, .i32⟩
  | 83 => ⟨S4, .i32⟩
  | 84 => ⟨S4, .i32⟩
  | 85 => ⟨S4, .i32⟩
  | 86 => ⟨S4x1, .i32⟩
  | 87 => ⟨S16x4x384x384, .f32⟩
  | 88 => ⟨S_, .f32⟩
  | 89 => ⟨S16x384x384, .f32⟩
  | 90 => ⟨S_, .i32⟩
  | 91 => ⟨S3, .i32⟩
  | 92 => ⟨S3, .i1⟩
  | 93 => ⟨S_, .i32⟩
  | 94 => ⟨S3, .i32⟩
  | 95 => ⟨S3, .i32⟩
  | 96 => ⟨S3, .i32⟩
  | 97 => ⟨S3x1, .i32⟩
  | 98 => ⟨S16x3x384x384, .f32⟩
  | 99 => ⟨S_, .f32⟩
  | 100 => ⟨S16x384x384, .f32⟩
  | 101 => ⟨S_, .i32⟩
  | 102 => ⟨S3, .i32⟩
  | 103 => ⟨S3, .i1⟩
  | 104 => ⟨S_, .i32⟩
  | 105 => ⟨S3, .i32⟩
  | 106 => ⟨S3, .i32⟩
  | 107 => ⟨S3, .i32⟩
  | 108 => ⟨S3x1, .i32⟩
  | 109 => ⟨S16x3x384x384, .f32⟩
  | 110 => ⟨S_, .f32⟩
  | 111 => ⟨S16x384x384, .f32⟩
  | 112 => ⟨S_, .i32⟩
  | 113 => ⟨S3, .i32⟩
  | 114 => ⟨S3, .i1⟩
  | 115 => ⟨S_, .i32⟩
  | 116 => ⟨S3, .i32⟩
  | 117 => ⟨S3, .i32⟩
  | 118 => ⟨S3, .i32⟩
  | 119 => ⟨S3x1, .i32⟩
  | 120 => ⟨S16x3x384x384, .f32⟩
  | 121 => ⟨S_, .f32⟩
  | 122 => ⟨S16x384x384, .f32⟩
  | 123 => ⟨S_, .i32⟩
  | 124 => ⟨S3, .i32⟩
  | 125 => ⟨S3, .i1⟩
  | 126 => ⟨S_, .i32⟩
  | 127 => ⟨S3, .i32⟩
  | _ => ⟨S16x9x384x384, .f32⟩

abbrev hbmTy0_1 (i : Nat) : BufTy := match i % 128 with
  | 0 => ⟨S3, .i32⟩
  | 1 => ⟨S3, .i32⟩
  | 2 => ⟨S3x1, .i32⟩
  | 3 => ⟨S16x3x384x384, .f32⟩
  | 4 => ⟨S_, .f32⟩
  | 5 => ⟨S16x384x384, .f32⟩
  | 6 => ⟨S_, .i32⟩
  | 7 => ⟨S4, .i32⟩
  | 8 => ⟨S4, .i1⟩
  | 9 => ⟨S_, .i32⟩
  | 10 => ⟨S4, .i32⟩
  | 11 => ⟨S4, .i32⟩
  | 12 => ⟨S4, .i32⟩
  | 13 => ⟨S4x1, .i32⟩
  | 14 => ⟨S16x4x384x384, .f32⟩
  | 15 => ⟨S_, .f32⟩
  | 16 => ⟨S16x384x384, .f32⟩
  | 17 => ⟨S_, .i32⟩
  | 18 => ⟨S4, .i32⟩
  | 19 => ⟨S4, .i1⟩
  | 20 => ⟨S_, .i32⟩
  | 21 => ⟨S4, .i32⟩
  | 22 => ⟨S4, .i32⟩
  | 23 => ⟨S4, .i32⟩
  | 24 => ⟨S4x1, .i32⟩
  | 25 => ⟨S16x4x384x384, .f32⟩
  | 26 => ⟨S_, .f32⟩
  | 27 => ⟨S16x384x384, .f32⟩
  | 28 => ⟨S16x1x384x384, .f32⟩
  | 29 => ⟨S16x1x384x384, .f32⟩
  | 30 => ⟨S16x1x384x384, .f32⟩
  | 31 => ⟨S16x1x384x384, .f32⟩
  | 32 => ⟨S16x1x384x384, .f32⟩
  | 33 => ⟨S16x1x384x384, .f32⟩
  | 34 => ⟨S16x1x384x384, .f32⟩
  | 35 => ⟨S16x1x384x384, .f32⟩
  | 36 => ⟨S16x8x384x384, .f32⟩
  | 37 => ⟨S_, .f32⟩
  | 38 => ⟨S16x8x384x384, .f32⟩
  | 39 => ⟨S16x8x384x384, .i1⟩
  | 40 => ⟨S16x8x384x384, .f32⟩
  | 41 => ⟨S384, .f32⟩
  | 42 => ⟨S1x1x384x1, .f32⟩
  | 43 => ⟨S384, .f32⟩
  | 44 => ⟨S1x1x1x384, .f32⟩
  | 45 => ⟨S_, .f32⟩
  | 46 => ⟨S16x8, .f32⟩
  | 47 => ⟨S16x8x384x384, .f32⟩
  | 48 => ⟨S16x8x384x384, .f32⟩
  | 49 => ⟨S_, .f32⟩
  | 50 => ⟨S16x8, .f32⟩
  | 51 => ⟨S16x8x384x384, .f32⟩
  | 52 => ⟨S16x8x384x384, .f32⟩
  | 53 => ⟨S_, .f32⟩
  | 54 => ⟨S16x8, .f32⟩
  | 55 => ⟨S_, .f32⟩
  | 56 => ⟨S16x8, .f32⟩
  | 57 => ⟨S16x8, .i1⟩
  | 58 => ⟨S_, .f32⟩
  | 59 => ⟨S16x8, .f32⟩
  | 60 => ⟨S16x8, .f32⟩
  | 61 => ⟨S16x8, .f32⟩
  | 62 => ⟨S_, .f32⟩
  | 63 => ⟨S_, .f32⟩
  | 64 => ⟨S16x8, .f32⟩
  | 65 => ⟨S16x8, .f32⟩
  | 66 => ⟨S_, .f32⟩
  | 67 => ⟨S16x8, .f32⟩
  | 68 => ⟨S16x8, .i1⟩
  | 69 => ⟨S_, .f32⟩
  | 70 => ⟨S16x8, .f32⟩
  | 71 => ⟨S16x8, .f32⟩
  | 72 => ⟨S16x8, .f32⟩
  | 73 => ⟨S_, .f32⟩
  | 74 => ⟨S_, .f32⟩
  | 75 => ⟨S16x8, .f32⟩
  | 76 => ⟨S16x8, .f32⟩
  | 77 => ⟨S_, .f32⟩
  | 78 => ⟨S16x8, .f32⟩
  | 79 => ⟨S16x8, .i1⟩
  | 80 => ⟨S_, .f32⟩
  | 81 => ⟨S_, .f32⟩
  | 82 => ⟨S16x8, .f32⟩
  | 83 => ⟨S16x8, .f32⟩
  | 84 => ⟨S_, .f32⟩
  | 85 => ⟨S16x8, .f32⟩
  | 86 => ⟨S16x8, .i1⟩
  | 87 => ⟨S_, .f32⟩
  | 88 => ⟨S_, .f32⟩
  | 89 => ⟨S16x8, .f32⟩
  | 90 => ⟨S16x8, .f32⟩
  | 91 => ⟨S16x8x1, .f32⟩
  | 92 => ⟨S16x8x1, .f32⟩
  | 93 => ⟨S16x8x2, .f32⟩
  | 94 => ⟨S_, .f32⟩
  | 95 => ⟨S16x8x2, .f32⟩
  | 96 => ⟨S16x8x2, .i1⟩
  | 97 => ⟨S_, .f32⟩
  | 98 => ⟨S16x8x2, .f32⟩
  | 99 => ⟨S16x8x2, .i1⟩
  | 100 => ⟨S16x8x2, .i1⟩
  | 101 => ⟨S_, .i1⟩
  | 102 => ⟨S16x8, .i1⟩
  | 103 => ⟨S16x8x2, .f32⟩
  | 104 => ⟨S16x8x2, .f32⟩
  | 105 => ⟨S16x8, .i1⟩
  | 106 => ⟨S16x8, .f32⟩
  | 107 => ⟨S16x8x1, .f32⟩
  | 108 => ⟨S16x8x2, .f32⟩
  | 109 => ⟨S16x8x2, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | _ => ⟨S16x9x384x384, .f32⟩

abbrev hbmTy (i : Nat) : BufTy := match i / 128 with
  | 0 => hbmTy0_0 i
  | 1 => hbmTy0_1 i
  | _ => ⟨S16x9x384x384, .f32⟩

abbrev bufTy : (tb : Table) → Fin (tcTables nBuf tb) → BufTy
  | .hbm, ⟨i, _⟩ => hbmTy i
  | _, _ => ⟨S16x9x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_8 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_9 : Ref sig .tc := ⟨.hbm, 27, rfl⟩
abbrev main_v14 : Ref sig .tc := ⟨.hbm, 28, rfl⟩
abbrev main_cst_10 : Ref sig .tc := ⟨.hbm, 29, rfl⟩
abbrev main_v15 : Ref sig .tc := ⟨.hbm, 30, rfl⟩
abbrev main_v16 : Ref sig .tc := ⟨.hbm, 31, rfl⟩
abbrev main_cst_11 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_12 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_cst_13 : Ref sig .tc := ⟨.hbm, 40, rfl⟩
abbrev main_v21 : Ref sig .tc := ⟨.hbm, 41, rfl⟩
abbrev main_v22 : Ref sig .tc := ⟨.hbm, 42, rfl⟩
abbrev main_cst_14 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_15 : Ref sig .tc := ⟨.hbm, 47, rfl⟩
abbrev main_call1_v0 : Ref sig .tc := ⟨.hbm, 48, rfl⟩
abbrev main_call1_v1 : Ref sig .tc := ⟨.hbm, 49, rfl⟩
abbrev main_v26 : Ref sig .tc := ⟨.hbm, 50, rfl⟩
abbrev main_cst_16 : Ref sig .tc := ⟨.hbm, 51, rfl⟩
abbrev main_v27 : Ref sig .tc := ⟨.hbm, 52, rfl⟩
abbrev main_v28 : Ref sig .tc := ⟨.hbm, 53, rfl⟩
abbrev main_cst_17 : Ref sig .tc := ⟨.hbm, 54, rfl⟩
abbrev main_call2_v0 : Ref sig .tc := ⟨.hbm, 55, rfl⟩
abbrev main_call2_v1 : Ref sig .tc := ⟨.hbm, 56, rfl⟩
abbrev main_v29 : Ref sig .tc := ⟨.hbm, 57, rfl⟩
abbrev main_cst_18 : Ref sig .tc := ⟨.hbm, 58, rfl⟩
abbrev main_v30 : Ref sig .tc := ⟨.hbm, 59, rfl⟩
abbrev main_v31 : Ref sig .tc := ⟨.hbm, 60, rfl⟩
abbrev main_cst_19 : Ref sig .tc := ⟨.hbm, 61, rfl⟩
abbrev main_call3_v0 : Ref sig .tc := ⟨.hbm, 62, rfl⟩
abbrev main_call3_v1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_20 : Ref sig .tc := ⟨.hbm, 68, rfl⟩
abbrev main_v36 : Ref sig .tc := ⟨.hbm, 69, rfl⟩
abbrev main_v37 : Ref sig .tc := ⟨.hbm, 70, rfl⟩
abbrev main_c_21 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_22 : Ref sig .tc := ⟨.hbm, 77, rfl⟩
abbrev main_v43 : Ref sig .tc := ⟨.hbm, 78, rfl⟩
abbrev main_c_23 : Ref sig .tc := ⟨.hbm, 79, rfl⟩
abbrev main_v44 : Ref sig .tc := ⟨.hbm, 80, rfl⟩
abbrev main_v45 : Ref sig .tc := ⟨.hbm, 81, rfl⟩
abbrev main_c_24 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_25 : Ref sig .tc := ⟨.hbm, 88, rfl⟩
abbrev main_v51 : Ref sig .tc := ⟨.hbm, 89, rfl⟩
abbrev main_c_26 : Ref sig .tc := ⟨.hbm, 90, rfl⟩
abbrev main_v52 : Ref sig .tc := ⟨.hbm, 91, rfl⟩
abbrev main_v53 : Ref sig .tc := ⟨.hbm, 92, rfl⟩
abbrev main_c_27 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_28 : Ref sig .tc := ⟨.hbm, 99, rfl⟩
abbrev main_v59 : Ref sig .tc := ⟨.hbm, 100, rfl⟩
abbrev main_c_29 : Ref sig .tc := ⟨.hbm, 101, rfl⟩
abbrev main_v60 : Ref sig .tc := ⟨.hbm, 102, rfl⟩
abbrev main_v61 : Ref sig .tc := ⟨.hbm, 103, rfl⟩
abbrev main_c_30 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_31 : Ref sig .tc := ⟨.hbm, 110, rfl⟩
abbrev main_v67 : Ref sig .tc := ⟨.hbm, 111, rfl⟩
abbrev main_c_32 : Ref sig .tc := ⟨.hbm, 112, rfl⟩
abbrev main_v68 : Ref sig .tc := ⟨.hbm, 113, rfl⟩
abbrev main_v69 : Ref sig .tc := ⟨.hbm, 114, rfl⟩
abbrev main_c_33 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_34 : Ref sig .tc := ⟨.hbm, 121, rfl⟩
abbrev main_v75 : Ref sig .tc := ⟨.hbm, 122, rfl⟩
abbrev main_c_35 : Ref sig .tc := ⟨.hbm, 123, rfl⟩
abbrev main_v76 : Ref sig .tc := ⟨.hbm, 124, rfl⟩
abbrev main_v77 : Ref sig .tc := ⟨.hbm, 125, rfl⟩
abbrev main_c_36 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_37 : Ref sig .tc := ⟨.hbm, 132, rfl⟩
abbrev main_v83 : Ref sig .tc := ⟨.hbm, 133, rfl⟩
abbrev main_c_38 : Ref sig .tc := ⟨.hbm, 134, rfl⟩
abbrev main_v84 : Ref sig .tc := ⟨.hbm, 135, rfl⟩
abbrev main_v85 : Ref sig .tc := ⟨.hbm, 136, rfl⟩
abbrev main_c_39 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_40 : Ref sig .tc := ⟨.hbm, 143, rfl⟩
abbrev main_v91 : Ref sig .tc := ⟨.hbm, 144, rfl⟩
abbrev main_c_41 : Ref sig .tc := ⟨.hbm, 145, rfl⟩
abbrev main_v92 : Ref sig .tc := ⟨.hbm, 146, rfl⟩
abbrev main_v93 : Ref sig .tc := ⟨.hbm, 147, rfl⟩
abbrev main_c_42 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_43 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_44 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_45 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_46 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_47 : Ref sig .tc := ⟨.hbm, 181, rfl⟩
abbrev main_v122 : Ref sig .tc := ⟨.hbm, 182, rfl⟩
abbrev main_cst_48 : Ref sig .tc := ⟨.hbm, 183, rfl⟩
abbrev main_v123 : Ref sig .tc := ⟨.hbm, 184, rfl⟩
abbrev main_v124 : Ref sig .tc := ⟨.hbm, 185, rfl⟩
abbrev main_cst_49 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_50 : Ref sig .tc := ⟨.hbm, 190, rfl⟩
abbrev main_call4_v0 : Ref sig .tc := ⟨.hbm, 191, rfl⟩
abbrev main_call4_v1 : Ref sig .tc := ⟨.hbm, 192, rfl⟩
abbrev main_v128 : Ref sig .tc := ⟨.hbm, 193, rfl⟩
abbrev main_cst_51 : Ref sig .tc := ⟨.hbm, 194, rfl⟩
abbrev main_v129 : Ref sig .tc := ⟨.hbm, 195, rfl⟩
abbrev main_v130 : Ref sig .tc := ⟨.hbm, 196, rfl⟩
abbrev main_cst_52 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_53 : Ref sig .tc := ⟨.hbm, 201, rfl⟩
abbrev main_call5_v0 : Ref sig .tc := ⟨.hbm, 202, rfl⟩
abbrev main_call5_v1 : Ref sig .tc := ⟨.hbm, 203, rfl⟩
abbrev main_v134 : Ref sig .tc := ⟨.hbm, 204, rfl⟩
abbrev main_cst_54 : Ref sig .tc := ⟨.hbm, 205, rfl⟩
abbrev main_v135 : Ref sig .tc := ⟨.hbm, 206, rfl⟩
abbrev main_v136 : Ref sig .tc := ⟨.hbm, 207, rfl⟩
abbrev main_cst_55 : Ref sig .tc := ⟨.hbm, 208, rfl⟩
abbrev main_call6_v0 : Ref sig .tc := ⟨.hbm, 209, rfl⟩
abbrev main_call6_v1 : Ref sig .tc := ⟨.hbm, 210, rfl⟩
abbrev main_v137 : Ref sig .tc := ⟨.hbm, 211, rfl⟩
abbrev main_cst_56 : Ref sig .tc := ⟨.hbm, 212, rfl⟩
abbrev main_v138 : Ref sig .tc := ⟨.hbm, 213, rfl⟩
abbrev main_v139 : Ref sig .tc := ⟨.hbm, 214, rfl⟩
abbrev main_cst_57 : Ref sig .tc := ⟨.hbm, 215, rfl⟩
abbrev main_call7_v0 : Ref sig .tc := ⟨.hbm, 216, rfl⟩
abbrev main_call7_v1 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_cst_58 : Ref sig .tc := ⟨.hbm, 222, rfl⟩
abbrev main_v144 : Ref sig .tc := ⟨.hbm, 223, rfl⟩
abbrev main_v145 : Ref sig .tc := ⟨.hbm, 224, rfl⟩
abbrev main_cst_59 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_c_60 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_cst_61 : Ref sig .tc := ⟨.hbm, 238, rfl⟩
abbrev main_v157 : Ref sig .tc := ⟨.hbm, 239, rfl⟩
abbrev main_cst_62 : Ref sig .tc := ⟨.hbm, 240, rfl⟩
abbrev main_v158 : Ref sig .tc := ⟨.hbm, 241, rfl⟩
abbrev main_cst_63 : Ref sig .tc := ⟨.hbm, 242, rfl⟩
abbrev main_v159 : Ref sig .tc := ⟨.hbm, 243, rfl⟩
abbrev main_cst_64 : Ref sig .tc := ⟨.hbm, 244, rfl⟩
abbrev main_v160 : Ref sig .tc := ⟨.hbm, 245, rfl⟩
abbrev main_v161 : Ref sig .tc := ⟨.hbm, 246, rfl⟩
abbrev main_cst_65 : Ref sig .tc := ⟨.hbm, 247, rfl⟩
abbrev main_v162 : Ref sig .tc := ⟨.hbm, 248, rfl⟩

abbrev nD : Nat := 1
abbrev τ : Topo := Topo.v7x

variable {F : FTy → Type} [FloatOps F]
-- ==== Proof.Block.lean ====
/- One image: what the body of the kernel computes from the two blocks of one grid point. The definitions spell the
   kernel's own operations for ONE body part; the body is that, summed over the eight parts. -/
module

public import proofs.«01_k».proof.Proof.Gen.KernelIdeal.Frame
public import Idealize.ShloMosaic.Lib.Pipeline.Value

@[expose] public section

set_option maxRecDepth 16384

noncomputable section

namespace Cert.KernelIdeal.Block

open Idealize.ShloMosaic Idealize.ShloMosaic.TcCoe Idealize.ShloMosaic.Tactic
open Cert.KernelIdeal Cert.KernelIdeal.Gen

variable {F : FTy → Type} [FloatOps F]

/-! ## One part -/

/-- The first key point of each body part. -/
def firstJoint : Fin 8 → Fin 23 := ![0, 5, 5, 6, 11, 12, 15, 16]

/-- The other key points of each body part, in the order they are added. -/
def moreJoints : Fin 8 → List (Fin 23) :=
  ![[1, 2, 3, 4], [6, 11, 12], [7, 9], [8, 10], [13, 15], [14, 16], [17, 18, 19], [20, 21, 22]]

/-- The plane of ones where `v` exceeds the threshold of word `w`, and of zeros elsewhere. -/
def above (w : BitVec 32) (v : FVec F S384x384 .f32) : FVec F S384x384 .f32 :=
  sitofp .f32 (extui 32 (cmpf .ogt v (broadcast S384x384 (Scalar.ofBits .f32 w))) natLt_1_32)

/-- The sum of a plane. -/
def total (v : FVec F S384x384 .f32) : F .f32 :=
  extractAt ![0, 0, 0] (shapeCast S1x1x1 (multiReduction .add [1, 2] S1
    (shapeCast S1x384x384 v shapeCasts_S384x384_S1x384x384) 0x00000000#32 reduces_S1x384x384_S1 (.inl rfl) rfl)
      shapeCasts_S1_S1x1x1) inpos_S1x1x1_p0_0_0

/-- A centre's coordinate from the count `n` and the coordinate sum `s`: their quotient where the count is positive,
    and nothing below zero. -/
def centre (n s : F .f32) : F .f32 :=
  let q := Scalar.select (Scalar.cmpf .ogt n (Scalar.ofBits .f32 0x00000000#32))
    (Scalar.divf s (Scalar.maximumf n (Scalar.ofBits .f32 0x3F800000#32))) (Scalar.ofBits .f32 0x00000000#32)
  Scalar.select (Scalar.cmpf .ogt q (Scalar.ofBits .f32 0x00000000#32)) q (Scalar.ofBits .f32 0x00000000#32)

/-- The row coordinate of the centre of the elements of `v` above the threshold `w`. -/
def centreRow (w : BitVec 32) (v : FVec F S384x384 .f32) : F .f32 :=
  centre (total (above w v)) (total (mulf (above w v) k0_pay6))

/-- The column coordinate of that centre. -/
def centreCol (w : BitVec 32) (v : FVec F S384x384 .f32) : F .f32 :=
  centre (total (above w v)) (total (mulf (above w v) k0_pay7))

/-- One where none of the four coordinates is zero, else zero. -/
def valid (kx ky mx my : F .f32) : F .f32 :=
  let z : F .f32 := Scalar.ofBits .f32 0x00000000#32
  Scalar.select (Scalar.ori (Scalar.ori (Scalar.ori (Scalar.cmpf .oeq kx z) (Scalar.cmpf .oeq ky z))
    (Scalar.cmpf .oeq mx z)) (Scalar.cmpf .oeq my z)) z (Scalar.ofBits .f32 0x3F800000#32)

/-- The squared distance of the two centres. -/
def dist (kx ky mx my : F .f32) : F .f32 :=
  Scalar.addf (Scalar.mulf (Scalar.subf mx kx) (Scalar.subf mx kx)) (Scalar.mulf (Scalar.subf my ky) (Scalar.subf my ky))

/-- Mask plane `p + 1` of a block lies in the block. -/
theorem inb_mask (p : Fin 8) (a : Fin 4) :
    (![0, p.val + 1, 0, 0] : Fin 4 → ℕ) a + S1x1x384x384.size a ≤ S1x9x384x384.size a := by
  have := p.isLt
  match a with
  | 0 => exact Nat.le_refl 1
  | 1 => show p.val + 1 + 1 ≤ 9; omega
  | 2 => exact Nat.le_refl 384
  | 3 => exact Nat.le_refl 384

/-- Key point plane `j` of a block lies in the block. -/
theorem inb_joint (j : Fin 23) (a : Fin 4) :
    (![0, j.val, 0, 0] : Fin 4 → ℕ) a + S1x1x384x384.size a ≤ S1x23x384x384.size a := by
  have := j.isLt
  match a with
  | 0 => exact Nat.le_refl 1
  | 1 => show j.val + 1 ≤ 23; omega
  | 2 => exact Nat.le_refl 384
  | 3 => exact Nat.le_refl 384

/-- The mask plane of part `p`. -/
def maskPlane (x : Vec F S1x9x384x384 .f32) (p : Fin 8) : FVec F S384x384 .f32 :=
  shapeCast S384x384 (View.ld x (Rect.unit (s := S1x9x384x384) ![0, p.val + 1, 0, 0] S1x1x384x384.size (inb_mask p)))
    shapeCasts_S1x1x384x384_S384x384

/-- The plane of key point `j`. -/
def jointPlane (x : Vec F S1x23x384x384 .f32) (j : Fin 23) : FVec F S384x384 .f32 :=
  shapeCast S384x384 (View.ld x (Rect.unit (s := S1x23x384x384) ![0, j.val, 0, 0] S1x1x384x384.size (inb_joint j)))
    shapeCasts_S1x1x384x384_S384x384

/-- The sum of the planes of part `p`'s key points. -/
def jointSum (x : Vec F S1x23x384x384 .f32) (p : Fin 8) : FVec F S384x384 .f32 :=
  (moreJoints p).foldl (fun s j => addf s (jointPlane x j)) (jointPlane x (firstJoint p))

/-- Whether part `p` counts, as a one or a zero. -/
def partValid (x0 : Vec F S1x9x384x384 .f32) (x1 : Vec F S1x23x384x384 .f32) (p : Fin 8) : F .f32 :=
  valid (centreRow 0x3E99999A#32 (jointSum x1 p)) (centreCol 0x3E99999A#32 (jointSum x1 p))
    (centreRow 0x3F000000#32 (maskPlane x0 p)) (centreCol 0x3F000000#32 (maskPlane x0 p))

/-- What part `p` adds to the numerator. -/
def partNum (x0 : Vec F S1x9x384x384 .f32) (x1 : Vec F S1x23x384x384 .f32) (p : Fin 8) : F .f32 :=
  Scalar.mulf (partValid x0 x1 p)
    (dist (centreRow 0x3E99999A#32 (jointSum x1 p)) (centreCol 0x3E99999A#32 (jointSum x1 p))
      (centreRow 0x3F000000#32 (maskPlane x0 p)) (centreCol 0x3F000000#32 (maskPlane x0 p)))

/-- What part `p` adds to the denominator. -/
def partDen (x0 : Vec F S1x9x384x384 .f32) (x1 : Vec F S1x23x384x384 .f32) (p : Fin 8) : F .f32 :=
  Scalar.mulf (Scalar.ofBits .f32 0x40000000#32) (partValid x0 x1 p)

/-- A sum over the eight parts, in order, from zero. -/
def overParts (f : Fin 8 → F .f32) : F .f32 :=
  [0, 1, 2, 3, 4, 5, 6, 7].foldl (fun s p => Scalar.addf s (f p)) (Scalar.ofBits .f32 0x00000000#32)

/-! ## The body's values -/

/-- The two scratch words. -/
def words (a b : F .f32) : Vec F S2 .f32 := fun i => if (i 0).val = 0 then a else b

/-- The first scratch word, as the body loads it. -/
def word0 (s : Vec F S2 .f32) : F .f32 :=
  View.ld s (Rect.unit (s := S2) ![0] S1.size inb_S2_S1_0) (Shape.Idx.first (numel1_S1.symm ▸ Nat.one_pos))

/-- The second scratch word, as the body loads it. -/
def word1 (s : Vec F S2 .f32) : F .f32 :=
  View.ld s (Rect.unit (s := S2) ![1] S1.size inb_S2_S1_1) (Shape.Idx.first (numel1_S1.symm ▸ Nat.one_pos))

/-- The first of two words. -/
theorem word0_words (a b : F .f32) : word0 (words a b) = a := by
  have h : ∀ x : S1.Idx, ((Rect.unit (s := S2) ![0] S1.size inb_S2_S1_0).toLoadRect.idx x 0).val = 0 := fun x => by
    have hx : (x 0).val < 1 := (x 0).isLt
    show 0 + 1 * (x 0).val = 0; omega
  unfold word0 View.ld words
  exact if_pos (h _)

/-- The second of two words. -/
theorem word1_words (a b : F .f32) : word1 (words a b) = b := by
  have h : ∀ x : S1.Idx, ((Rect.unit (s := S2) ![1] S1.size inb_S2_S1_1).toLoadRect.idx x 0).val ≠ 0 := fun x => by
    show 1 + 1 * (x 0).val ≠ 0; omega
  unfold word1 View.ld words
  exact if_neg (h _)

/-- What two stores of one word each, at word 0 and then at word 1, leave. -/
theorem canon_words (a b : F .f32) :
    View.canon [(⟨Rect.unit (s := S2) ![1] S1.size inb_S2_S1_1, fun _ => b⟩ : View.Piece (Elt F) S2 .f32),
      ⟨Rect.unit (s := S2) ![0] S1.size inb_S2_S1_0, fun _ => a⟩] = words a b := by
  funext y
  refine View.canon_apply_of_pieces (words a b) _ ?_ y ?_
  · intro p hp x
    simp only [List.mem_cons, List.not_mem_nil, or_false] at hp
    rcases hp with rfl | rfl
    · have h : ((Rect.unit (s := S2) ![1] S1.size inb_S2_S1_1).emb x 0).val ≠ 0 := by
        show 1 + 1 * (x 0).val ≠ 0; omega
      exact (if_neg h).symm
    · have hx : (x 0).val < 1 := (x 0).isLt
      have h : ((Rect.unit (s := S2) ![0] S1.size inb_S2_S1_0).emb x 0).val = 0 := by
        show 0 + 1 * (x 0).val = 0; omega
      exact (if_pos h).symm
  · exact View.cover_of_tiledL (s := S2) _ (fun _ => 1) (by sl_kernel_rfl) y

/-- What a store of the whole one by one block leaves. -/
theorem canon_block (w : Vec F S1x1 .f32) :
    View.canon [(⟨Rect.unit (s := S1x1) ![0, 0] S1x1.size inb_S1x1_S1x1_0_0, w⟩ : View.Piece (Elt F) S1x1 .f32)] = w :=
  View.canon_unit_zero (funext fun a => by fin_cases a <;> rfl) _ _

section
variable (c : Dev nD) (i : grid0.Coords) (arg1 : Memref sig .tc .vmem S1x9x384x384 .f32) (harg1 : arg1.IsWhole)
  (arg2 : Memref sig .tc .vmem S1x23x384x384 .f32) (harg2 : arg2.IsWhole)
  (arg3 : Memref sig .tc .vmem S1x1 .f32) (harg3 : arg3.IsWhole)
  (arg4 : Memref sig .tc .smem S2 .f32) (harg4 : arg4.IsWhole)
  (x0 : Vec F S1x9x384x384 .f32) (x1 : Vec F S1x23x384x384 .f32) (xs0 : Vec F S2 .f32)

/-- At the first point the scratch words become the sums of the point's image. -/
theorem scratch_first (hc0 : cond0_0 i) (hc1 : ¬cond0_1 i) :
    sout0_A_0 c i arg1 harg1 arg2 harg2 arg3 harg3 arg4 harg4 hc0 hc1 x0 x1
      = words (overParts (partNum x0 x1)) (overParts (partDen x0 x1)) := by
  unfold sout0_A_0
  rw [View.read_writes_eq_canon _ _ _ (scover0_A_0 c i arg1 harg1 arg2 harg2 arg3 harg3 arg4 harg4 hc0 hc1 x0 x1)]
  unfold kernelRun0_A; dsimp only; sl_unfold_words
  simp only [View.readAt_eq_ld, harg1.read_unread, harg2.read_unread]
  exact canon_words _ _

/-- At the first point the output is the quotient of those sums. -/
theorem out_first (hc0 : cond0_0 i) (hc1 : ¬cond0_1 i) :
    out0_A_2 c i arg1 harg1 arg2 harg2 arg3 harg3 arg4 harg4 hc0 hc1 x0 x1
      = k0_pay5 (overParts (partNum x0 x1)) (overParts (partDen x0 x1)) := by
  unfold out0_A_2
  rw [View.read_writes_eq_canon _ _ _ (cover0_A_2 c i arg1 harg1 arg2 harg2 arg3 harg3 arg4 harg4 hc0 hc1 x0 x1)]
  unfold kernelRun0_A; dsimp only; sl_unfold_words
  simp only [View.readAt_eq_ld, harg1.read_unread, harg2.read_unread]
  exact canon_block _

/-- At a later point each scratch word grows by the sum of the point's image. -/
theorem scratch_later (hc0 : ¬cond0_0 i) (hc1 : cond0_1 i) :
    sout0_B_0 c i arg1 harg1 arg2 harg2 arg3 harg3 arg4 harg4 hc0 hc1 x0 x1 xs0
      = words (Scalar.addf (word0 xs0) (overParts (partNum x0 x1)))
          (Scalar.addf (word1 xs0) (overParts (partDen x0 x1))) := by
  unfold sout0_B_0
  rw [View.read_writes_eq_canon _ _ _ (scover0_B_0 c i arg1 harg1 arg2 harg2 arg3 harg3 arg4 harg4 hc0 hc1 x0 x1 xs0)]
  unfold kernelRun0_B; dsimp only; sl_unfold_words
  simp only [View.readAt_eq_ld, harg1.read_unread, harg2.read_unread, harg4.read_unread]
  exact canon_words _ _

/-- At a later point the output is the quotient of the grown words. -/
theorem out_later (hc0 : ¬cond0_0 i) (hc1 : cond0_1 i) :
    out0_B_2 c i arg1 harg1 arg2 harg2 arg3 harg3 arg4 harg4 hc0 hc1 x0 x1 xs0
      = k0_pay5 (Scalar.addf (word0 xs0) (overParts (partNum x0 x1)))
          (Scalar.addf (word1 xs0) (overParts (partDen x0 x1))) := by
  unfold out0_B_2
  rw [View.read_writes_eq_canon _ _ _ (cover0_B_2 c i arg1 harg1 arg2 harg2 arg3 harg3 arg4 harg4 hc0 hc1 x0 x1 xs0)]
  unfold kernelRun0_B; dsimp only; sl_unfold_words
  simp only [View.readAt_eq_ld, harg1.read_unread, harg2.read_unread, harg4.read_unread]
  exact canon_block _

end

end Cert.KernelIdeal.Block
-- ==== Proof.Array.lean ====
/- The array: what the scratch and the output's block hold after each grid point, and what the kernel's result is. -/
module

public import proofs.«01_k».proof.Proof.Block

@[expose] public section

set_option maxRecDepth 16384

noncomputable section

namespace Cert.KernelIdeal.Array

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Block

variable {F : FTy → Type} [FloatOps F]
variable (m : (ℓ : Loc nD τ sig) → Buf (Elt F) ℓ) (ρ : Dev nD → PrngReg)

/-- The image `n`'s sum of `f` over the parts, added after those of the images before it. -/
def chain (f : (n : ℕ) → n < cfg0.N → F .f32) : (n : ℕ) → n < cfg0.N → F .f32
  | 0, h => f 0 h
  | n + 1, h => Scalar.addf (chain f n (Nat.lt_of_succ_lt h)) (f (n + 1) h)

/-- The numerator that the image of point `n` contributes. -/
def imageNum (c : Dev nD) (n : ℕ) (h : n < cfg0.N) : F .f32 :=
  overParts (partNum (iblk m c 0 ⟨n, h⟩) (iblk m c 1 ⟨n, h⟩))

/-- The denominator that the image of point `n` contributes. -/
def imageDen (c : Dev nD) (n : ℕ) (h : n < cfg0.N) : F .f32 :=
  overParts (partDen (iblk m c 0 ⟨n, h⟩) (iblk m c 1 ⟨n, h⟩))

/-- After point `n` the scratch holds the sums over the images up to `n`, and the output's block their quotient. -/
theorem outs_eq (c : Dev nD) : ∀ (n : ℕ) (h : n < cfg0.N), outsAt0 m c n h
    = (k0_pay5 (chain (imageNum m c) n h) (chain (imageDen m c) n h),
        words (chain (imageNum m c) n h) (chain (imageDen m c) n h))
  | 0, h => by
    rw [outsAt0_A m c ⟨0, h⟩ rfl (Nat.not_succ_le_zero 0), out_first, scratch_first]
    rfl
  | n + 1, h => by
    have hN : cfg0.N = 16 := N_0
    have h0 : ¬(⟨n + 1, h⟩ : Fin cfg0.N).val % 16 = 0 := by dsimp only; omega
    have h1 : 1 ≤ (⟨n + 1, h⟩ : Fin cfg0.N).val := by dsimp only; omega
    rw [outsAt0_B m c ⟨n + 1, h⟩ h0 h1, out_later, scratch_later]
    have e : (outsAt0 m c ((⟨n + 1, h⟩ : Fin cfg0.N).val - 1) (Nat.lt_of_le_of_lt (Nat.sub_le _ _) h)).2
        = words (chain (imageNum m c) n (Nat.lt_of_succ_lt h)) (chain (imageDen m c) n (Nat.lt_of_succ_lt h)) :=
      congrArg Prod.snd (outs_eq c n (Nat.lt_of_succ_lt h))
    rw [e, word0_words, word1_words]
    rfl

/-- The last point is a point of the grid. -/
theorem lt15 : 15 < cfg0.N := by rw [show cfg0.N = 16 from N_0]; decide

/-- The block the kernel leaves: the quotient of the sums over all sixteen images. -/
def block (c : Dev nD) : FVec F S1x1 .f32 := k0_pay5 (chain (imageNum m c) 15 lt15) (chain (imageDen m c) 15 lt15)

/-- The result array's contents. -/
abbrev result (c : Dev nD) : Buf (Elt F) ((c : Thread nD τ).loc main_v0) := block m c

/-- What the last point writes back is the whole result array. -/
theorem flushed_eq (c : Dev nD) (t : Fin cfg0.N) (hf : (cfg0.win 2).flush t = true) :
    (dats m 0 c).flushed 2 t = ((cfg0.win 2).blk t).view.read (Elt F) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outs_eq]
  have hz : (fun a => win0_2.index t0_15 a * main_v0.ty.shape.size a) = fun _ => 0 :=
    funext fun a => by fin_cases a <;> decide
  exact (Memref.read_access_unit_zero (Elt F) main_v0 hz (fun a => by rw [congrFun hz a]; simp) (result m c)).symm

/-- The result array ends at it. -/
theorem array_eq (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v0).slice (win0_2.rect t0_15)).set
      rw [View.set_slice_whole, Rect.mem_set_unit]
      intro a
      have hz : ∀ a, win0_2.index t0_15 a * win0_2.size a = 0 := by decide +kernel
      have hs : ∀ a, win0_2.xsize (grid0.coords t0_15) a = 1 := by decide +kernel
      have hi : (i a : Nat) < 1 := by
        match a with
        | ⟨0, _⟩ => exact (i 0).isLt
        | ⟨1, _⟩ => exact (i 1).isLt
      show win0_2.index t0_15 a * win0_2.size a ≤ (i a : Nat)
        ∧ (i a : Nat) < win0_2.index t0_15 a * win0_2.size a + win0_2.xsize (grid0.coords t0_15) a
      rw [hz a, hs a]; omega⟩

/-- The run, read: the program's scalar result is the array's one element, and the arguments are unchanged. -/
theorem run : θ_run defs (onTc (τ := τ) (main (F := F))) ⟨m, fun _ => 0, ρ⟩ fun r => ∀ c : Dev nD,
      r.2.mem ((c.tc : Thread nD τ).loc main_v1) = shapeCast S_ (block m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ((h c).1 0).trans ((dats m 0 c).arrAt_in 0 rfl _),
    ((h c).1 1).trans ((dats m 0 c).arrAt_in 1 rfl _)⟩) (run_main m ρ)
  refine ((h c).2 main_v1 (Pipeline.mem_restRefs_of _ rfl (by decide))).trans ?_
  unfold Pipeline.afterTail₀ hostOps1
  have e : Pipeline.withArrays (cfgs 0).spec c (V0 m c) (fun w => (dats m 0 c).arrAt w (cfgs 0).N)
      (Proc.devRef .tc main_v0) = result m c :=
    (Pipeline.withArrays_arr (cfgs 0).spec (by decide) c (V0 m c) _ 2).trans (array_eq m c)
  generalize Pipeline.withArrays (cfgs 0).spec c (V0 m c) (fun w => (dats m 0 c).arrAt w (cfgs 0).N) = A at e ⊢
  rw [show block m c = A (Proc.devRef .tc main_v0) from e.symm]
  show StableHlo.after [StableHlo.reshape main_v0 main_v1 rfl shapeCasts_S1x1_S_] A (Proc.devRef .tc main_v1) = _
  after_results
  rfl

end Cert.KernelIdeal.Array
-- ==== Proof.Spec.lean ====
/- The problem's mathematics over the extended reals, with no program in it: what one plane's centre is, what one body
   part of one image contributes, and what the loss is. -/
module

public import Idealize.ShloMosaic.Lib.Pointwise

@[expose] public section

noncomputable section

namespace Cert.Spec

open Idealize.ShloMosaic

/-- One where `x` exceeds the threshold of word `w`, else zero. -/
def hit (w : BitVec 32) (x : EReal) : EReal := if Ideal.ofBits .f32 w < x then 1 else 0

/-- The coordinate of row or column `n`. -/
def coord (n : Fin 384) : EReal := ((n.val : ℝ) : EReal)

/-- How many elements of the plane `f` exceed the threshold. -/
def count (w : BitVec 32) (f : Fin 384 → Fin 384 → EReal) : EReal := ∑ r, ∑ c, hit w (f r c)

/-- The sum of the row coordinates of those elements. -/
def rowSum (w : BitVec 32) (f : Fin 384 → Fin 384 → EReal) : EReal := ∑ r, ∑ c, hit w (f r c) * coord r

/-- The sum of the column coordinates of those elements. -/
def colSum (w : BitVec 32) (f : Fin 384 → Fin 384 → EReal) : EReal := ∑ r, ∑ c, hit w (f r c) * coord c

/-- A coordinate of a centre from a count and a coordinate sum: zero for an empty count, and nothing below zero. -/
def mean (n s : EReal) : EReal :=
  let q := if 0 < n then Ideal.div s (max n 1) else 0
  if 0 < q then q else 0

/-- The centre of the elements of the plane `f` above the threshold: its row (coordinate 0) and column (coordinate 1). -/
def centre (w : BitVec 32) (f : Fin 384 → Fin 384 → EReal) : Fin 2 → EReal :=
  ![mean (count w f) (rowSum w f), mean (count w f) (colSum w f)]

/-- The key points of each body part. -/
def joints : Fin 8 → List (Fin 23) :=
  ![[0, 1, 2, 3, 4], [5, 6, 11, 12], [5, 7, 9], [6, 8, 10], [11, 13, 15], [12, 14, 16], [15, 17, 18, 19],
    [16, 20, 21, 22]]

/-- The sum of a part's key point planes. -/
def jointPlane (y : Fin 23 → Fin 384 → Fin 384 → EReal) (p : Fin 8) : Fin 384 → Fin 384 → EReal :=
  fun r c => ((joints p).map fun j => y j r c).sum

/-- The centre of a part's key points in one image. -/
def jointCentre (y : Fin 23 → Fin 384 → Fin 384 → EReal) (p : Fin 8) : Fin 2 → EReal :=
  centre 0x3E99999A#32 (jointPlane y p)

/-- The centre of a part's mask in one image: mask plane 0 is the background, so part `p` has plane `p + 1`. -/
def maskCentre (x : Fin 9 → Fin 384 → Fin 384 → EReal) (p : Fin 8) : Fin 2 → EReal :=
  centre 0x3F000000#32 (x p.succ)

/-- One where no coordinate of the two centres is zero, else zero. -/
def valid (k m : Fin 2 → EReal) : EReal := if k 0 = 0 ∨ k 1 = 0 ∨ m 0 = 0 ∨ m 1 = 0 then 0 else 1

/-- What part `p` of an image adds to the denominator's count. -/
def weight (x : Fin 9 → Fin 384 → Fin 384 → EReal) (y : Fin 23 → Fin 384 → Fin 384 → EReal) (p : Fin 8) : EReal :=
  valid (jointCentre y p) (maskCentre x p)

/-- The squared difference of coordinate `d` of the two centres. -/
def gap (x : Fin 9 → Fin 384 → Fin 384 → EReal) (y : Fin 23 → Fin 384 → Fin 384 → EReal) (p : Fin 8) (d : Fin 2) : EReal :=
  (maskCentre x p d - jointCentre y p d) * (maskCentre x p d - jointCentre y p d)

/-- The loss over sixteen images: the weighted squared distances over the number of weighted coordinates (at least one),
    scaled. -/
def loss (x : Fin 16 → Fin 9 → Fin 384 → Fin 384 → EReal) (y : Fin 16 → Fin 23 → Fin 384 → Fin 384 → EReal) : EReal :=
  Ideal.ofBits .f32 0x3727C5AC#32 * Ideal.div (∑ b, ∑ p, ∑ d, gap (x b) (y b) p d * weight (x b) (y b) p)
    (max (Ideal.ofBits .f32 0x40000000#32 * ∑ b, ∑ p, weight (x b) (y b) p) 1)

/-! ## Words -/

/-- The word of a row or column number, read as a number. -/
theorem sitofp_coord (n : Fin 384) : (FloatOps.sitofp .f32 (BitVec.ofNat 32 n.val) : Ideal .f32) = coord n := by
  show ((((BitVec.ofNat 32 n.val).toInt : ℤ) : ℝ) : EReal) = ((n.val : ℝ) : EReal)
  have hn := n.isLt
  have h : (BitVec.ofNat 32 n.val).toInt = (n.val : ℤ) := by
    rw [BitVec.toInt_eq_toNat_cond, BitVec.toNat_ofNat, Nat.mod_eq_of_lt (by omega), if_pos (by omega)]
  rw [h, Int.cast_natCast]

/-! ## Arithmetic of the weights -/

/-- A weight is zero or one. -/
theorem valid_zero_or_one (k m : Fin 2 → EReal) : valid k m = 0 ∨ valid k m = 1 := by
  unfold valid; split
  · exact .inl rfl
  · exact .inr rfl

/-- A weight is not negative. -/
theorem weight_nonneg (x : Fin 9 → Fin 384 → Fin 384 → EReal) (y : Fin 23 → Fin 384 → Fin 384 → EReal) (p : Fin 8) :
    0 ≤ weight x y p := by
  rcases valid_zero_or_one (jointCentre y p) (maskCentre x p) with h | h <;> simp [weight, h]

/-- The weighted distance is the sum of the weighted squared differences. -/
theorem weight_mul (x : Fin 9 → Fin 384 → Fin 384 → EReal) (y : Fin 23 → Fin 384 → Fin 384 → EReal) (p : Fin 8) :
    weight x y p * (gap x y p 0 + gap x y p 1) = ∑ d, gap x y p d * weight x y p := by
  rcases valid_zero_or_one (jointCentre y p) (maskCentre x p) with h | h <;>
    simp [weight, h, Fin.sum_univ_two]

/-- A factor distributes over a sum of terms that are not negative. -/
theorem mul_sum_of_nonneg {ι : Type} (s : Finset ι) (a : EReal) (f : ι → EReal) (hf : ∀ i, 0 ≤ f i) :
    ∑ i ∈ s, a * f i = a * ∑ i ∈ s, f i := by
  classical
  induction s using Finset.induction_on with
  | empty => simp
  | insert i s hi ih =>
    rw [Finset.sum_insert hi, Finset.sum_insert hi, ih, EReal.left_distrib_of_nonneg (hf i) (Finset.sum_nonneg fun i _ => hf i)]

/-- A factor of the dividend is a factor of the quotient where the divisor is at least one. -/
theorem mul_div_max (a b d : EReal) : Ideal.div (a * b) (max d 1) = a * Ideal.div b (max d 1) := by
  have h : max d 1 ≠ 0 := (lt_of_lt_of_le zero_lt_one (le_max_right d 1)).ne'
  simp only [Ideal.div, if_neg h, mul_assoc]

end Cert.Spec
-- ==== Proof.BlockValue.lean ====
/- One image over the extended reals: the block's operations read at an element, and what a part contributes. -/
module

public import proofs.«01_k».proof.Proof.Array
public import proofs.«01_k».proof.Proof.Spec

@[expose] public section

set_option maxRecDepth 16384

noncomputable section

namespace Cert.KernelIdeal.BlockValue

open Idealize.ShloMosaic Idealize.ShloMosaic.TcCoe Idealize.ShloMosaic.Tactic
open Cert.KernelIdeal Cert.KernelIdeal.Gen Cert.KernelIdeal.Block

/-! ## The planes -/

/-- The sum of a plane is the double sum over its rows and columns. -/
theorem total_eq (v : FVec Ideal S384x384 .f32) : total v = ∑ r : Fin 384, ∑ c : Fin 384, v (ix2 r c) := by
  pointwise [total]

/-- A bit widened to a word and read as a number is one or zero. -/
theorem sitofp_bit (p : Prop) [Decidable p] :
    (FloatOps.sitofp .f32 (BitVec.setWidth 32 (BitVec.ofBool (decide p))) : Ideal .f32) = if p then 1 else 0 := by
  show ((((BitVec.setWidth 32 (BitVec.ofBool (decide p))).toInt : ℤ) : ℝ) : EReal) = _
  by_cases h : p
  · rw [if_pos h, decide_eq_true h, show (BitVec.setWidth 32 (BitVec.ofBool true)).toInt = 1 from by decide]; simp
  · rw [if_neg h, decide_eq_false h, show (BitVec.setWidth 32 (BitVec.ofBool false)).toInt = 0 from by decide]; simp

/-- The thresholded plane at an element. -/
theorem above_apply (w : BitVec 32) (v : FVec Ideal S384x384 .f32) (r c : Fin 384) :
    above w v (ix2 r c) = Spec.hit w (v (ix2 r c)) := by
  pointwise [above, Spec.hit]
  exact sitofp_bit _

/-- The plane of row coordinates at an element. -/
theorem rows_apply (r c : Fin 384) : (k0_pay6 (F := Ideal)) (ix2 r c) = Spec.coord r := by
  pointwise [k0_pay6]
  exact Spec.sitofp_coord r

/-- The plane of column coordinates at an element. -/
theorem cols_apply (r c : Fin 384) : (k0_pay7 (F := Ideal)) (ix2 r c) = Spec.coord c := by
  pointwise [k0_pay7]
  exact Spec.sitofp_coord c

/-- A plane of a block, its two leading axes of extent one dropped, at an element. -/
theorem drop_apply (v : Vec Ideal S1x1x384x384 .f32) (r c : Fin 384) :
    shapeCast S384x384 v shapeCasts_S1x1x384x384_S384x384 (ix2 r c) = v (ix4 0 0 r c) := by
  pointwise

/-- The mask plane of a part at an element. -/
theorem maskPlane_apply (x : Vec Ideal S1x9x384x384 .f32) (p : Fin 8) (r c : Fin 384) :
    maskPlane x p (ix2 r c) = x (ix4 0 p.succ r c) := by
  unfold maskPlane
  rw [drop_apply]
  unfold View.ld
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * c.val = c.val; omega

/-- A key point's plane at an element. -/
theorem jointPlane_apply (x : Vec Ideal S1x23x384x384 .f32) (j : Fin 23) (r c : Fin 384) :
    jointPlane x j (ix2 r c) = x (ix4 0 j r c) := by
  unfold jointPlane
  rw [drop_apply]
  unfold View.ld
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * c.val = c.val; omega

/-- Planes added one after another to a first plane, at an element. -/
theorem foldl_addf_apply (g : Fin 23 → FVec Ideal S384x384 .f32) (i : S384x384.Idx) :
    ∀ (l : List (Fin 23)) (a : FVec Ideal S384x384 .f32),
      l.foldl (fun s j => addf s (g j)) a i = a i + (l.map fun j => g j i).sum
  | [], a => (add_zero (a i : EReal)).symm
  | j :: l, a => by
    rw [List.foldl_cons, foldl_addf_apply g i l, List.map_cons, List.sum_cons, ← add_assoc]
    rfl

/-- The list of a part's key points, its first apart. -/
theorem joints_eq : ∀ p : Fin 8, Spec.joints p = firstJoint p :: moreJoints p := by decide

/-- The sum of a part's key point planes at an element. -/
theorem jointSum_apply (x : Vec Ideal S1x23x384x384 .f32) (p : Fin 8) (r c : Fin 384) :
    jointSum x p (ix2 r c) = Spec.jointPlane (fun j r c => x (ix4 0 j r c)) p r c := by
  unfold jointSum Spec.jointPlane
  rw [foldl_addf_apply, joints_eq p, List.map_cons, List.sum_cons]
  simp only [jointPlane_apply]

/-! ## The centres -/

/-- The scalar operations of a centre's coordinate are the specification's. -/
theorem centre_eq (n s : Ideal .f32) : centre n s = Spec.mean n s := by
  pointwise [centre, Spec.mean]

/-- The row coordinate of a plane's centre. -/
theorem centreRow_eq (w : BitVec 32) (v : FVec Ideal S384x384 .f32) :
    centreRow w v = Spec.centre w (fun r c => v (ix2 r c)) 0 := by
  unfold centreRow
  rw [centre_eq, total_eq, total_eq]
  simp only [mulf_apply, above_apply, rows_apply]
  rfl

/-- The column coordinate of a plane's centre. -/
theorem centreCol_eq (w : BitVec 32) (v : FVec Ideal S384x384 .f32) :
    centreCol w v = Spec.centre w (fun r c => v (ix2 r c)) 1 := by
  unfold centreCol
  rw [centre_eq, total_eq, total_eq]
  simp only [mulf_apply, above_apply, cols_apply]
  rfl

/-- The chain of zero tests is the specification's condition. -/
theorem valid_eq (k m : Fin 2 → EReal) : valid (F := Ideal) (k 0) (k 1) (m 0) (m 1) = Spec.valid k m := by
  pointwise [valid, Spec.valid]
  by_cases h0 : k 0 = 0 <;> by_cases h1 : k 1 = 0 <;> by_cases h2 : m 0 = 0 <;> by_cases h3 : m 1 = 0 <;>
    (simp [h0, h1, h2, h3, Scalar.select, Scalar.ori]; decide)

/-! ## One part -/

section
variable (x0 : Vec Ideal S1x9x384x384 .f32) (x1 : Vec Ideal S1x23x384x384 .f32) (p : Fin 8)

/-- A mask block's planes. -/
abbrev masks : Fin 9 → Fin 384 → Fin 384 → EReal := fun j r c => x0 (ix4 0 j r c)

/-- A key point block's planes. -/
abbrev points : Fin 23 → Fin 384 → Fin 384 → EReal := fun j r c => x1 (ix4 0 j r c)

/-- The plane of a part's mask. -/
theorem maskPlane_eq : (fun r c => maskPlane x0 p (ix2 r c)) = masks x0 p.succ :=
  funext fun r => funext fun c => maskPlane_apply x0 p r c

/-- The plane of a part's key points. -/
theorem jointSum_eq : (fun r c => jointSum x1 p (ix2 r c)) = Spec.jointPlane (points x1) p :=
  funext fun r => funext fun c => jointSum_apply x1 p r c

/-- A part's weight is the specification's. -/
theorem partValid_eq : partValid x0 x1 p = Spec.weight (masks x0) (points x1) p := by
  unfold partValid
  rw [centreRow_eq, centreCol_eq, centreRow_eq, centreCol_eq, valid_eq, maskPlane_eq, jointSum_eq]
  rfl

/-- A part's numerator is its weighted squared distance. -/
theorem partNum_eq : partNum x0 x1 p
    = ∑ d, Spec.gap (masks x0) (points x1) p d * Spec.weight (masks x0) (points x1) p := by
  rw [← Spec.weight_mul]
  unfold partNum
  rw [partValid_eq, centreRow_eq, centreCol_eq, centreRow_eq, centreCol_eq, maskPlane_eq, jointSum_eq]
  rfl

/-- A part's denominator is twice its weight. -/
theorem partDen_eq : partDen x0 x1 p
    = Ideal.ofBits .f32 0x40000000#32 * Spec.weight (masks x0) (points x1) p := by
  unfold partDen
  rw [partValid_eq]
  rfl

end

/-- The ordered sum over the parts is the sum. -/
theorem overParts_eq (f : Fin 8 → EReal) : overParts (F := Ideal) f = ∑ p, f p := by
  unfold overParts
  rw [Fin.sum_univ_eight]
  show Ideal.ofBits .f32 0x00000000#32 + f 0 + f 1 + f 2 + f 3 + f 4 + f 5 + f 6 + f 7 = _
  rw [Ideal.ofBits_zero_f32, zero_add]

end Cert.KernelIdeal.BlockValue
-- ==== Proof.KernelValue.lean ====
/- The kernel's result over the extended reals: each point's blocks are one image's planes, and the quotient of the sums
   over the sixteen points is the loss. -/
module

public import proofs.«01_k».proof.Proof.Array
public import proofs.«01_k».proof.Proof.BlockValue

@[expose] public section

set_option maxRecDepth 16384

noncomputable section

namespace Cert.KernelIdeal.KernelValue

open Idealize.ShloMosaic Idealize.ShloMosaic.TcCoe Idealize.ShloMosaic.Tactic
open Cert.KernelIdeal Cert.KernelIdeal.Gen Cert.KernelIdeal.Block Cert.KernelIdeal.Array Cert.KernelIdeal.BlockValue

variable (m : (ℓ : Loc nD τ sig) → Buf (Elt Ideal) ℓ) (c : Dev nD)

/-- The mask array's contents at the launch. -/
abbrev maskArg : Vec Ideal S16x9x384x384 .f32 := m ((c : Thread nD τ).loc main_arg0)

/-- The key point array's contents at the launch. -/
abbrev pointArg : Vec Ideal S16x23x384x384 .f32 := m ((c : Thread nD τ).loc main_arg1)

/-- One image's masks. -/
abbrev imageMasks (b : Fin 16) : Fin 9 → Fin 384 → Fin 384 → EReal := fun j r k => maskArg m c (ix4 b j r k)

/-- One image's key points. -/
abbrev imagePoints (b : Fin 16) : Fin 23 → Fin 384 → Fin 384 → EReal := fun j r k => pointArg m c (ix4 b j r k)

/-- The image of a grid point. -/
def img (t : Fin cfg0.N) : Fin 16 := ⟨t.val, t.isLt.trans_eq N_0⟩

/-- Both operands' windows lie at block `t` of the first axis and at the start of the others. -/
theorem index_eq : ∀ t : Fin cfg0.N,
    (win0_0.index t 0 = t.val ∧ win0_0.index t 1 = 0 ∧ win0_0.index t 2 = 0 ∧ win0_0.index t 3 = 0)
      ∧ (win0_1.index t 0 = t.val ∧ win0_1.index t 1 = 0 ∧ win0_1.index t 2 = 0 ∧ win0_1.index t 3 = 0) := by
  decide +kernel

/-- The mask block of point `t` holds image `t`'s planes. -/
theorem masks_iblk (t : Fin cfg0.N) : masks (iblk m c 0 t) = imageMasks m c (img t) := by
  obtain ⟨⟨h0, h1, h2, h3⟩, _⟩ := index_eq t
  funext j r k
  show (iblk m c 0 t : Vec Ideal S1x9x384x384 .f32) (ix4 0 j r k) = _
  unfold iblk
  rw [View.read_apply]
  show V m c main_arg0 _ = m (c.tc.loc main_arg0) _
  unfold V
  refine congrArg _ (funext fun a => Fin.ext ?_)
  match a with
  | ⟨0, _⟩ => show win0_0.index t 0 * 1 + 1 * 0 = t.val; rw [h0]; omega
  | ⟨1, _⟩ => show win0_0.index t 1 * 9 + 1 * j.val = j.val; rw [h1]; omega
  | ⟨2, _⟩ => show win0_0.index t 2 * 384 + 1 * r.val = r.val; rw [h2]; omega
  | ⟨3, _⟩ => show win0_0.index t 3 * 384 + 1 * k.val = k.val; rw [h3]; omega

/-- The key point block of point `t` holds image `t`'s planes. -/
theorem points_iblk (t : Fin cfg0.N) : points (iblk m c 1 t) = imagePoints m c (img t) := by
  obtain ⟨_, h0, h1, h2, h3⟩ := index_eq t
  funext j r k
  show (iblk m c 1 t : Vec Ideal S1x23x384x384 .f32) (ix4 0 j r k) = _
  unfold iblk
  rw [View.read_apply]
  show V m c main_arg1 _ = m (c.tc.loc main_arg1) _
  unfold V
  refine congrArg _ (funext fun a => Fin.ext ?_)
  match a with
  | ⟨0, _⟩ => show win0_1.index t 0 * 1 + 1 * 0 = t.val; rw [h0]; omega
  | ⟨1, _⟩ => show win0_1.index t 1 * 23 + 1 * j.val = j.val; rw [h1]; omega
  | ⟨2, _⟩ => show win0_1.index t 2 * 384 + 1 * r.val = r.val; rw [h2]; omega
  | ⟨3, _⟩ => show win0_1.index t 3 * 384 + 1 * k.val = k.val; rw [h3]; omega

/-- The ordered sum over the points is the sum over the images. -/
theorem chain_eq (f : Fin 16 → EReal) (g : (n : ℕ) → n < cfg0.N → Ideal .f32) (hg : ∀ n h, g n h = f (img ⟨n, h⟩)) :
    chain g 15 lt15 = ∑ b, f b := by
  have key : ∀ n (h : n < cfg0.N), chain g n h = ∑ i : Fin (n + 1), f ⟨i.val, by have hN : cfg0.N = 16 := N_0; have := i.isLt; omega⟩ := by
    intro n
    induction n with
    | zero => intro h; rw [Fin.sum_univ_one]; exact hg 0 h
    | succ n ih =>
      intro h
      rw [Fin.sum_univ_castSucc]
      exact congrArg₂ (fun a b : EReal => a + b) (ih (Nat.lt_of_succ_lt h)) (hg (n + 1) h)
  exact key 15 lt15

/-- One image's numerator. -/
theorem imageNum_eq (n : ℕ) (h : n < cfg0.N) : imageNum m c n h
    = ∑ p, ∑ d, Spec.gap (imageMasks m c (img ⟨n, h⟩)) (imagePoints m c (img ⟨n, h⟩)) p d
        * Spec.weight (imageMasks m c (img ⟨n, h⟩)) (imagePoints m c (img ⟨n, h⟩)) p := by
  unfold imageNum
  rw [overParts_eq, ← masks_iblk, ← points_iblk]
  exact Finset.sum_congr rfl fun p _ => partNum_eq _ _ p

/-- One image's denominator: twice its weights' sum. -/
theorem imageDen_eq (n : ℕ) (h : n < cfg0.N) : imageDen m c n h
    = Ideal.ofBits .f32 0x40000000#32
        * ∑ p, Spec.weight (imageMasks m c (img ⟨n, h⟩)) (imagePoints m c (img ⟨n, h⟩)) p := by
  unfold imageDen
  rw [overParts_eq, ← masks_iblk, ← points_iblk, ← Spec.mul_sum_of_nonneg _ _ _ (Spec.weight_nonneg _ _)]
  exact Finset.sum_congr rfl fun p _ => partDen_eq _ _ p

/-- The kernel's last operations on a numerator and a denominator. -/
theorem quotient_apply (a b : Ideal .f32) (i : S1x1.Idx) :
    k0_pay5 a b i = Ideal.ofBits .f32 0x3727C5AC#32 * Ideal.div a (max b 1) := by
  rw [← Spec.mul_div_max]
  pointwise [k0_pay5]

/-- The kernel's result is the specification's loss. -/
theorem result_eq : shapeCast S_ (block m c) shapeCasts_S1x1_S_
    = fun _ => Spec.loss (imageMasks m c) (imagePoints m c) := by
  funext i
  show block m c _ = _
  unfold block Spec.loss
  rw [quotient_apply,
    chain_eq (fun b => ∑ p, ∑ d, Spec.gap (imageMasks m c b) (imagePoints m c b) p d
      * Spec.weight (imageMasks m c b) (imagePoints m c b) p) _ (imageNum_eq m c),
    chain_eq (fun b => Ideal.ofBits .f32 0x40000000#32
      * ∑ p, Spec.weight (imageMasks m c b) (imagePoints m c b) p) _ (imageDen_eq m c)]
  rw [← Spec.mul_sum_of_nonneg Finset.univ _ _ fun b => Finset.sum_nonneg fun p _ => Spec.weight_nonneg _ _ p]

end Cert.KernelIdeal.KernelValue
-- ==== Proof.Gather.lean ====
/- Picking planes: a gather along an array's second axis, read at an element, and the sum of the picked planes. -/
module

public import Idealize.ShloMosaic.Lib.Pointwise

@[expose] public section

set_option maxRecDepth 16384

noncomputable section

namespace Cert.Picked

open Idealize.ShloMosaic

/-- The array of sixteen images with 23 planes each. -/
abbrev Images : Shape := ⟨4, ![16, 23, 384, 384]⟩
/-- A column of `n` start indices. -/
abbrev Starts (n : ℕ) : Shape := ⟨2, ![n, 1]⟩
/-- A row of `n` indices. -/
abbrev Row (n : ℕ) : Shape := ⟨1, ![n]⟩
/-- The array of the picked planes. -/
abbrev Planes (n : ℕ) : Shape := ⟨4, ![16, n, 384, 384]⟩

/-- The dimension numbers of picking `n` planes along axis 1. -/
def along (n : ℕ) (wf : GatherDims.WF Images (Starts n) (Planes n) [0, 2, 3] [1] [] [1] [] 1 ![16, 1, 384, 384]) :
    GatherDims Images (Starts n) (Planes n) where
  offsetDims := [0, 2, 3]
  collapsedSliceDims := [1]
  operandBatchingDims := []
  startIndicesBatchingDims := []
  startIndexMap := [1]
  indexVectorDim := 1
  sliceSizes := ![16, 1, 384, 384]
  wf := wf

/-- The word of a plane's number, read signed, is the number. -/
theorem toNat_word (j : Fin 23) : (BitVec.ofNat 32 j.val).toInt.toNat = j.val := by
  have hj := j.isLt
  rw [BitVec.toInt_eq_toNat_cond, BitVec.toNat_ofNat, Nat.mod_eq_of_lt (by omega), if_pos (by omega), Int.toNat_natCast]

variable {α : Type} (n : ℕ)
  (wf : GatherDims.WF Images (Starts n) (Planes n) [0, 2, 3] [1] [] [1] [] 1 ![16, 1, 384, 384])

/-- Where the start index of picked plane `k` lies. -/
theorem siIdx_eq (b : Fin 16) (k : Fin n) (r c : Fin 384) (i : Fin 1) :
    (along n wf).siIdx (ix4 b k r c) i = ix2 k 0 := by
  funext a
  match a with
  | ⟨0, _⟩ => rfl
  | ⟨1, _⟩ => exact Subsingleton.elim (α := Fin 1) _ _

/-- The picked plane `k` is the plane its start index names. -/
theorem gather_apply (x : Images.Idx → α) (idx : IVec (Starts n) 32) (b : Fin 16) (k : Fin n) (r c : Fin 384) (j : Fin 23)
    (h : idx (ix2 k 0) = BitVec.ofNat 32 j.val) :
    Host.gather (along n wf) x idx (ix4 b k r c) = x (ix4 b j r c) := by
  unfold Host.gather
  refine congrArg x (funext fun a => Fin.ext ?_)
  unfold GatherDims.operandIdx
  match a with
  | ⟨0, _⟩ => show 0 + 0 + b.val = b.val; omega
  | ⟨1, _⟩ =>
    have e : min (BitVec.ofNat 32 j.val).toInt.toNat 22 = j.val := by
      rw [toNat_word]; have := j.isLt; omega
    exact (congrArg (fun z : BitVec 32 => min z.toInt.toNat 22)
      ((congrArg idx (siIdx_eq n wf b k r c 0)).trans h)).trans e
  | ⟨2, _⟩ => show 0 + 0 + r.val = r.val; omega
  | ⟨3, _⟩ => show 0 + 0 + c.val = c.val; omega

/-- A plane's number is not negative, so it is its own start index. -/
theorem word_select (j : Fin 23) : Scalar.select (IntOp.cmpi .slt (BitVec.ofNat 32 j.val) 0#32)
    (IntOp.addi (BitVec.ofNat 32 j.val) 23#32) (BitVec.ofNat 32 j.val) = BitVec.ofNat 32 j.val := by
  revert j; decide

/-- A row laid out as a column, at an element. -/
theorem column_apply (hb : (Row n).BroadcastsInDim (Starts n) (![0] : Fin 1 → Fin 2)) (t : IVec (Row n) 32) (k : Fin n) :
    broadcastInDim (Starts n) ![0] hb t (ix2 k 0) = t (ix1 k) := by
  unfold broadcastInDim
  refine congrArg t (funext fun a => Fin.ext ?_)
  match a with
  | ⟨0, _⟩ =>
    split
    · rename_i h
      have h : n = 1 := h
      have := k.isLt
      show 0 = k.val
      omega
    · rfl

/-- The column of start indices made of a row of plane numbers, a negative one counted from the end. -/
theorem starts_apply (hb : (Row n).BroadcastsInDim (Starts n) (![0] : Fin 1 → Fin 2))
    (hn : (⟨0, ![]⟩ : Shape).BroadcastsInDim (Row n) (![] : Fin 0 → Fin 1)) (t : IVec (Row n) 32) (k : Fin n) (j : Fin 23)
    (h : t (ix1 k) = BitVec.ofNat 32 j.val) :
    broadcastInDim (Starts n) ![0] hb (select (cmpi .slt t (broadcastInDim (Row n) ![] hn (constantI ⟨0, ![]⟩ 32 0#32)))
      (addi t (broadcastInDim (Row n) ![] hn (constantI ⟨0, ![]⟩ 32 23#32))) t) (ix2 k 0) = BitVec.ofNat 32 j.val := by
  rw [column_apply]
  pointwise
  rw [h]
  exact word_select j

/-- The sum of the picked planes at an element. -/
theorem sum_apply (x : FVec Ideal Images .f32) (idx : IVec (Starts n) 32) (js : Fin n → Fin 23)
    (h : ∀ k, idx (ix2 k 0) = BitVec.ofNat 32 (js k).val)
    (hr : (Planes n).ReducesTo [1] ⟨3, ![16, 384, 384]⟩) (hp : 0 < (⟨0, ![]⟩ : Shape).numel) (b : Fin 16) (r c : Fin 384) :
    Host.reduceAdd (Host.gather (along n wf) x idx) (constant ⟨0, ![]⟩ .f32 0x00000000#32) hr hp (ix3 b r c)
      = ∑ k, x (ix4 b (js k) r c) := by
  pointwise
  exact Finset.sum_congr rfl fun k _ => gather_apply n wf x idx b k r c (js k) (h k)

end Cert.Picked
-- ==== Proof.Reference.lean ====
/- The reference over the extended reals: its composed terms read at an element. -/
module

public import proofs.«01_k».proof.Proof.Gen.ReferenceIdeal.Run
public import Idealize.ShloMosaic.Lib.Routing.OpsOrder
public import proofs.«01_k».proof.Proof.Gather
public import proofs.«01_k».proof.Proof.Spec

@[expose] public section

set_option maxRecDepth 16384

noncomputable section

namespace Cert.ReferenceIdeal.Read

open Idealize.ShloMosaic Idealize.ShloMosaic.TcCoe Idealize.ShloMosaic.Tactic
open Cert.ReferenceIdeal Cert.ReferenceIdeal.Gen Cert.ReferenceIdeal.Value

/-! ## The centres of sixteen by eight planes -/

section
variable (w : BitVec 32) (X : FVec Ideal S16x8x384x384 .f32)

/-- The planes of ones above the threshold. -/
def hits : FVec Ideal S16x8x384x384 .f32 :=
  uitofp .f32 (cmpf .ogt X (broadcastInDim S16x8x384x384 ![] bcast_S_S16x8x384x384 (constant S_ .f32 w)))

/-- The planes of row coordinates. -/
def rows : FVec Ideal S16x8x384x384 .f32 :=
  broadcastInDim S16x8x384x384 ![0, 1, 2, 3] bcast_S1x1x384x1_S16x8x384x384_0_1_2_3
    (broadcastInDim S1x1x384x1 ![2] bcast_S384_S1x1x384x1_2 (sitofp .f32 (iotaInDim S384 32 0)))

/-- The planes of column coordinates. -/
def cols : FVec Ideal S16x8x384x384 .f32 :=
  broadcastInDim S16x8x384x384 ![0, 1, 2, 3] bcast_S1x1x1x384_S16x8x384x384_0_1_2_3
    (broadcastInDim S1x1x1x384 ![3] bcast_S384_S1x1x1x384_3 (sitofp .f32 (iotaInDim S384 32 0)))

/-- The sum of each plane. -/
def sums : FVec Ideal S16x8 .f32 :=
  Host.reduceAdd X (constant S_ .f32 0x00000000#32) reducesTo_S16x8x384x384_S16x8_d2_3 h_S_

/-- The quotients of coordinate sums by counts, zero for an empty count. -/
def quotients (n s : FVec Ideal S16x8 .f32) : FVec Ideal S16x8 .f32 :=
  select (cmpf .ogt n (broadcastInDim S16x8 ![] bcast_S_S16x8 (constant S_ .f32 0x00000000#32)))
    (Host.divf s (maximumf n (broadcastInDim S16x8 ![] bcast_S_S16x8 (constant S_ .f32 0x3F800000#32))))
    (broadcastInDim S16x8 ![] bcast_S_S16x8 (id (constant S_ .f32 0x00000000#32)))

/-- Nothing below zero. -/
def clipped (q : FVec Ideal S16x8 .f32) : FVec Ideal S16x8 .f32 :=
  select (cmpf .ogt q (broadcastInDim S16x8 ![] bcast_S_S16x8 (constant S_ .f32 0x00000000#32))) q
    (broadcastInDim S16x8 ![] bcast_S_S16x8 (id (constant S_ .f32 0x00000000#32)))

/-- Two arrays of coordinates side by side. -/
def pairs (a b : FVec Ideal S16x8 .f32) : FVec Ideal S16x8x2 .f32 :=
  concatenate S16x8x2 2 [⟨S16x8x1, broadcastInDim S16x8x1 ![0, 1] bcast_S16x8_S16x8x1_0_1 a⟩,
    ⟨S16x8x1, broadcastInDim S16x8x1 ![0, 1] bcast_S16x8_S16x8x1_0_1 b⟩] concatenates_S16x8x1_S16x8x1_S16x8x2_d2

/-- The centres of the planes of `X` above the threshold. -/
def centres : FVec Ideal S16x8x2 .f32 :=
  pairs (clipped (quotients (sums (hits w X)) (sums (mulf (hits w X) rows))))
    (clipped (quotients (sums (hits w X)) (sums (mulf (hits w X) cols))))

/-- A bit read as a number is one or zero. -/
theorem uitofp_bit (p : Prop) [Decidable p] :
    (FloatOps.uitofp .f32 (BitVec.ofBool (decide p)) : Ideal .f32) = if p then 1 else 0 := by
  show ((((BitVec.ofBool (decide p)).toNat : ℕ) : ℝ) : EReal) = _
  by_cases h : p <;> simp [h]

variable (b : Fin 16) (p : Fin 8) (r c : Fin 384)

/-- The thresholded planes at an element. -/
theorem hits_apply : hits w X (ix4 b p r c) = Spec.hit w (X (ix4 b p r c)) := by
  pointwise [hits, Spec.hit]
  exact uitofp_bit _

/-- The row coordinates at an element. -/
theorem rows_apply : rows (ix4 b p r c) = Spec.coord r := by
  pointwise [rows]
  exact Spec.sitofp_coord r

/-- The column coordinates at an element. -/
theorem cols_apply : cols (ix4 b p r c) = Spec.coord c := by
  pointwise [cols]
  exact Spec.sitofp_coord c

/-- The sum of a plane is the double sum over its rows and columns. -/
theorem sums_apply : sums X (ix2 b p) = ∑ r : Fin 384, ∑ c : Fin 384, X (ix4 b p r c) := by
  pointwise [sums]

/-- A clipped quotient is the specification's. -/
theorem clipped_apply (n s : FVec Ideal S16x8 .f32) :
    clipped (quotients n s) (ix2 b p) = Spec.mean (n (ix2 b p)) (s (ix2 b p)) := by
  pointwise [clipped, quotients, id, Spec.mean]

/-- The first of two coordinates side by side. -/
theorem pairs_zero (a a' : FVec Ideal S16x8 .f32) : pairs a a' (ix3 b p 0) = a (ix2 b p) := by
  pointwise [pairs]

/-- The second of two coordinates side by side. -/
theorem pairs_one (a a' : FVec Ideal S16x8 .f32) : pairs a a' (ix3 b p 1) = a' (ix2 b p) := by
  pointwise [pairs]

/-- The centres are the specification's, plane by plane. -/
theorem centres_apply : ∀ d : Fin 2, centres w X (ix3 b p d) = Spec.centre w (fun r c => X (ix4 b p r c)) d
  | 0 => by
    unfold centres
    rw [pairs_zero, clipped_apply, sums_apply, sums_apply]
    simp only [mulf_apply, hits_apply, rows_apply]
    rfl
  | 1 => by
    unfold centres
    rw [pairs_one, clipped_apply, sums_apply, sums_apply]
    simp only [mulf_apply, hits_apply, cols_apply]
    rfl

end

/-! ## The two arguments -/

variable (V : Valuation τ sig (Elt Ideal))

/-- The masks. -/
abbrev maskArg : FVec Ideal S16x9x384x384 .f32 := V (Proc.devRef .tc main_arg0)

/-- The key points. -/
abbrev pointArg : FVec Ideal S16x23x384x384 .f32 := V (Proc.devRef .tc main_arg1)

/-- One image's masks. -/
abbrev masks (b : Fin 16) : Fin 9 → Fin 384 → Fin 384 → EReal := fun j r c => maskArg V (ix4 b j r c)

/-- One image's key points. -/
abbrev points (b : Fin 16) : Fin 23 → Fin 384 → Fin 384 → EReal := fun j r c => pointArg V (ix4 b j r c)

/-- The mask of a part. -/
theorem slice_apply (x : FVec Ideal S16x9x384x384 .f32) (b : Fin 16) (p : Fin 8) (r c : Fin 384) :
    extractStridedSlice S16x8x384x384 ![0, 1, 0, 0] x slices_S16x9x384x384_S16x8x384x384_0_1_0_0 (ix4 b p r c)
      = x (ix4 b p.succ r c) := by
  pointwise
  exact congrArg (fun q => x (ix4 b q r c)) (Fin.ext (Nat.add_comm 1 p.val))

/-- The reference's mask centres. -/
theorem v35_apply (b : Fin 16) (p : Fin 8) (d : Fin 2) :
    res_main_v35 V (ix3 b p d) = Spec.maskCentre (masks V b) p d := by
  show centres 0x3F000000#32 (extractStridedSlice S16x8x384x384 ![0, 1, 0, 0] (maskArg V)
    slices_S16x9x384x384_S16x8x384x384_0_1_0_0) (ix3 b p d) = _
  rw [centres_apply]
  simp only [slice_apply]
  rfl

/-! ## The parts' key point planes -/

/-- Eight planes stacked along axis 1. -/
def stack (u : Fin 8 → FVec Ideal S16x1x384x384 .f32) : FVec Ideal S16x8x384x384 .f32 :=
  concatenate S16x8x384x384 1 [⟨S16x1x384x384, u 0⟩, ⟨S16x1x384x384, u 1⟩, ⟨S16x1x384x384, u 2⟩, ⟨S16x1x384x384, u 3⟩,
    ⟨S16x1x384x384, u 4⟩, ⟨S16x1x384x384, u 5⟩, ⟨S16x1x384x384, u 6⟩, ⟨S16x1x384x384, u 7⟩]
    concatenates_S16x1x384x384_S16x1x384x384_S16x1x384x384_S16x1x384x384_S16x1x384x384_S16x1x384x384_S16x1x384x384_S16x1x384x384_S16x8x384x384_d1

/-- The stack at an element. -/
theorem stack_apply (u : Fin 8 → FVec Ideal S16x1x384x384 .f32) (b : Fin 16) (p : Fin 8) (r c : Fin 384) :
    stack u (ix4 b p r c) = u p (ix4 b 0 r c) := by
  pointwise [stack]
  fin_vals p with hp
  all_goals simp only [hp, Nat.reduceSub, Nat.reduceLT, ↓reduceDIte]
  all_goals exact congrArg (fun q => u q (ix4 b 0 r c)) (Fin.ext hp.symm)

/-- A kept axis of extent one, at an element. -/
theorem keep_apply (v : FVec Ideal S16x384x384 .f32) (b : Fin 16) (r c : Fin 384) :
    broadcastInDim S16x1x384x384 ![0, 2, 3] bcast_S16x384x384_S16x1x384x384_0_2_3 v (ix4 b 0 r c) = v (ix3 b r c) := by
  pointwise

open Cert.Picked in
/-- The sum of the key point planes of the list `l`, picked through the row `t` of their numbers. -/
def picked (l : List (Fin 23)) (t : IVec (Row l.length) 32) (x : FVec Ideal S16x23x384x384 .f32)
    (wf : GatherDims.WF Images (Starts l.length) (Planes l.length) [0, 2, 3] [1] [] [1] [] 1 ![16, 1, 384, 384])
    (hb : (Row l.length).BroadcastsInDim (Starts l.length) (![0] : Fin 1 → Fin 2))
    (hn : S_.BroadcastsInDim (Row l.length) (![] : Fin 0 → Fin 1))
    (hr : (Planes l.length).ReducesTo [1] S16x384x384) : FVec Ideal S16x1x384x384 .f32 :=
  broadcastInDim S16x1x384x384 ![0, 2, 3] bcast_S16x384x384_S16x1x384x384_0_2_3
    (Host.reduceAdd (Host.gather (along l.length wf) x (broadcastInDim (Starts l.length) ![0] hb
        (select (cmpi .slt t (broadcastInDim (Row l.length) ![] hn (constantI S_ 32 0#32)))
          (addi t (broadcastInDim (Row l.length) ![] hn (constantI S_ 32 23#32))) t)))
      (constant S_ .f32 0x00000000#32) hr h_S_)

/-- That sum at an element. -/
theorem picked_apply (l : List (Fin 23)) (t : IVec (Picked.Row l.length) 32) (x : FVec Ideal S16x23x384x384 .f32) wf hb hn hr
    (ht : ∀ k, t (ix1 k) = BitVec.ofNat 32 (l.get k).val) (b : Fin 16) (r c : Fin 384) :
    picked l t x wf hb hn hr (ix4 b 0 r c) = (l.map fun j => x (ix4 b j r c)).sum := by
  unfold picked
  rw [keep_apply, Picked.sum_apply l.length wf x _ l.get fun k => Picked.starts_apply l.length hb hn t k (l.get k) (ht k)]
  exact Fin.sum_univ_fun_getElem l fun j => x (ix4 b j r c)

/-- The constant rows hold the key points' numbers. -/
theorem tables :
    (∀ k : Fin 5, lit0 (S5.rowMajor (ix1 k)) = BitVec.ofNat 32 ((Spec.joints 0).get k).val) ∧
    (∀ k : Fin 4, lit1 (S4.rowMajor (ix1 k)) = BitVec.ofNat 32 ((Spec.joints 1).get k).val) ∧
    (∀ k : Fin 3, lit2 (S3.rowMajor (ix1 k)) = BitVec.ofNat 32 ((Spec.joints 2).get k).val) ∧
    (∀ k : Fin 3, lit3 (S3.rowMajor (ix1 k)) = BitVec.ofNat 32 ((Spec.joints 3).get k).val) ∧
    (∀ k : Fin 3, lit4 (S3.rowMajor (ix1 k)) = BitVec.ofNat 32 ((Spec.joints 4).get k).val) ∧
    (∀ k : Fin 3, lit5 (S3.rowMajor (ix1 k)) = BitVec.ofNat 32 ((Spec.joints 5).get k).val) ∧
    (∀ k : Fin 4, lit6 (S4.rowMajor (ix1 k)) = BitVec.ofNat 32 ((Spec.joints 6).get k).val) ∧
    (∀ k : Fin 4, lit7 (S4.rowMajor (ix1 k)) = BitVec.ofNat 32 ((Spec.joints 7).get k).val) := by
  decide

/-- The stacked sums are the specification's planes. -/
theorem v108_apply (b : Fin 16) (p : Fin 8) (r c : Fin 384) :
    res_main_v108 V (ix4 b p r c) = Spec.jointPlane (points V b) p r c := by
  show stack ![picked (Spec.joints 0) (res_main_c V) (pointArg V) _ _ _ _, picked (Spec.joints 1) (res_main_c_0 V) (pointArg V) _ _ _ _,
    picked (Spec.joints 2) (res_main_c_1 V) (pointArg V) _ _ _ _, picked (Spec.joints 3) (res_main_c_2 V) (pointArg V) _ _ _ _,
    picked (Spec.joints 4) (res_main_c_3 V) (pointArg V) _ _ _ _, picked (Spec.joints 5) (res_main_c_4 V) (pointArg V) _ _ _ _,
    picked (Spec.joints 6) (res_main_c_5 V) (pointArg V) _ _ _ _, picked (Spec.joints 7) (res_main_c_6 V) (pointArg V) _ _ _ _]
    (ix4 b p r c) = _
  rw [stack_apply]
  match p with
  | 0 => exact picked_apply (Spec.joints 0) (res_main_c V) (pointArg V) _ _ _ _ tables.1 b r c
  | 1 => exact picked_apply (Spec.joints 1) (res_main_c_0 V) (pointArg V) _ _ _ _ tables.2.1 b r c
  | 2 => exact picked_apply (Spec.joints 2) (res_main_c_1 V) (pointArg V) _ _ _ _ tables.2.2.1 b r c
  | 3 => exact picked_apply (Spec.joints 3) (res_main_c_2 V) (pointArg V) _ _ _ _ tables.2.2.2.1 b r c
  | 4 => exact picked_apply (Spec.joints 4) (res_main_c_3 V) (pointArg V) _ _ _ _ tables.2.2.2.2.1 b r c
  | 5 => exact picked_apply (Spec.joints 5) (res_main_c_4 V) (pointArg V) _ _ _ _ tables.2.2.2.2.2.1 b r c
  | 6 => exact picked_apply (Spec.joints 6) (res_main_c_5 V) (pointArg V) _ _ _ _ tables.2.2.2.2.2.2.1 b r c
  | 7 => exact picked_apply (Spec.joints 7) (res_main_c_6 V) (pointArg V) _ _ _ _ tables.2.2.2.2.2.2.2 b r c

/-- The reference's key point centres. -/
theorem v143_apply (b : Fin 16) (p : Fin 8) (d : Fin 2) :
    res_main_v143 V (ix3 b p d) = Spec.jointCentre (points V b) p d := by
  show centres 0x3E99999A#32 (res_main_v108 V) (ix3 b p d) = _
  rw [centres_apply]
  simp only [v108_apply]
  rfl

/-! ## The weights -/

/-- One where no coordinate of two arrays of centres is zero. -/
def weights (M K : FVec Ideal S16x8x2 .f32) : FVec Ideal S16x8x1 .f32 :=
  broadcastInDim S16x8x1 ![0, 1] bcast_S16x8_S16x8x1_0_1 (uitofp .f32 (noti (Host.reduce IntOp.ori
    (ori (cmpf .oeq K (broadcastInDim S16x8x2 ![] bcast_S_S16x8x2 (constant S_ .f32 0x00000000#32)))
      (cmpf .oeq M (broadcastInDim S16x8x2 ![] bcast_S_S16x8x2 (constant S_ .f32 0x00000000#32))))
    (constantI S_ 1 0#1) reducesTo_S16x8x2_S16x8_d2 h_S_)))

/-- The «or» of two bits is one exactly when one of them is. -/
theorem ori_bits : ∀ a b : Bool, IntOp.ori (BitVec.ofBool a) (BitVec.ofBool b) = 1#1 ↔ a = true ∨ b = true := by decide

/-- The weights at an element. -/
theorem weights_apply (M K : FVec Ideal S16x8x2 .f32) (b : Fin 16) (p : Fin 8) :
    weights M K (ix3 b p 0) = Spec.valid (fun d => K (ix3 b p d)) (fun d => M (ix3 b p d)) := by
  pointwise [weights]
  generalize hf : Finset.fold IntOp.ori _ _ _ = f
  have e : f = 1#1 ↔ K (ix3 b p 0) = 0 ∨ K (ix3 b p 1) = 0 ∨ M (ix3 b p 0) = 0 ∨ M (ix3 b p 1) = 0 := by
    rw [← hf, Routing.fold_ori]
    simp only [Finset.mem_univ, true_and, ori_bits, Fin.exists_fin_two]
    exact (or_congr (or_congr decide_eq_true_iff decide_eq_true_iff)
      (or_congr decide_eq_true_iff decide_eq_true_iff)).trans (by tauto)
  unfold Spec.valid
  rcases BitVec.eq_zero_or_eq_one f with rfl | rfl
  · rw [if_neg fun h => absurd (e.2 h) (by decide)]
    show ((((~~~0#1).toNat : ℕ) : ℝ) : EReal) = 1
    rw [show (~~~0#1 : BitVec 1).toNat = 1 from by decide]; simp
  · rw [if_pos (e.1 rfl)]
    show ((((~~~1#1).toNat : ℕ) : ℝ) : EReal) = 0
    rw [show (~~~1#1 : BitVec 1).toNat = 0 from by decide]; simp

/-- The reference's weights. -/
theorem v154_apply (b : Fin 16) (p : Fin 8) :
    res_main_v154 V (ix3 b p 0) = Spec.weight (masks V b) (points V b) p := by
  show weights (res_main_v35 V) (res_main_v143 V) (ix3 b p 0) = _
  rw [weights_apply]
  simp only [v35_apply, v143_apply]
  rfl

/-! ## The loss -/

/-- The loss of centres and weights. -/
def lossOf (g : FVec Ideal S16x8x2 .f32) (u : FVec Ideal S16x8x1 .f32) : FVec Ideal S_ .f32 :=
  mulf (constant S_ .f32 0x3727C5AC#32) (Host.divf
    (Host.reduceAdd (mulf (mulf g g) (broadcastInDim S16x8x2 ![0, 1, 2] bcast_S16x8x1_S16x8x2_0_1_2 u))
      (constant S_ .f32 0x00000000#32) reducesTo_S16x8x2_S_d0_1_2 h_S_)
    (maximumf (mulf (constant S_ .f32 0x40000000#32)
      (Host.reduceAdd u (constant S_ .f32 0x00000000#32) reducesTo_S16x8x1_S_d0_1_2 h_S_)) (constant S_ .f32 0x3F800000#32)))

/-- That loss, read. -/
theorem lossOf_apply (g : FVec Ideal S16x8x2 .f32) (u : FVec Ideal S16x8x1 .f32) : lossOf g u ix0
    = Ideal.ofBits .f32 0x3727C5AC#32 * Ideal.div
        (∑ b : Fin 16, ∑ p : Fin 8, ∑ d : Fin 2, g (ix3 b p d) * g (ix3 b p d) * u (ix3 b p 0))
        (max (Ideal.ofBits .f32 0x40000000#32 * ∑ b : Fin 16, ∑ p : Fin 8, u (ix3 b p 0)) 1) := by
  pointwise [lossOf]
  simp only [Fin.sum_univ_one]

/-- The squared differences of two arrays of centres at an element. -/
theorem gaps_apply (M K : FVec Ideal S16x8x2 .f32) (i : S16x8x2.Idx) :
    subf M K i * subf M K i = ((M i : EReal) - K i) * ((M i : EReal) - K i) := rfl

/-- The reference's result is the specification's loss. -/
theorem result_eq : lossOf (res_main_v150 V) (res_main_v154 V) = fun _ => Spec.loss (masks V) (points V) := by
  funext i
  rw [show i = ix0 from Subsingleton.elim _ _]
  show lossOf (subf (res_main_v35 V) (res_main_v143 V)) (res_main_v154 V) ix0 = _
  rw [lossOf_apply]
  simp only [gaps_apply, v154_apply, v35_apply, v143_apply]
  rfl

end Cert.ReferenceIdeal.Read
-- ==== Proof.lean ====
module

public import proofs.«01_k».proof.Defs
public import proofs.«01_k».proof.Proof.Gen.Kernel.Frame
public import proofs.«01_k».proof.Proof.KernelValue
public import proofs.«01_k».proof.Proof.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Idealize.ShloMosaic.StableHlo (launchContents)

/-- The kernel runs, and leaves its arguments and the counters as they were. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the kernel and the reference end at one scalar: the loss. -/
theorem algebraic : Cert.algebraic_KernelIdeal_ReferenceIdeal := by
  intro m ρ m' ρ' _ hagree
  refine ⟨fun c _ => Spec.loss (Cert.KernelIdeal.KernelValue.imageMasks m c) (Cert.KernelIdeal.KernelValue.imagePoints m c),
    ?_, ?_⟩
  · exact (θ_run Cert.KernelIdeal.defs _ _).mono
      (fun r h c => ⟨(h c).1.trans (Cert.KernelIdeal.KernelValue.result_eq m c), (h c).2⟩)
      (Cert.KernelIdeal.Array.run (F := Ideal) m ρ)
  · refine (θ_run Cert.ReferenceIdeal.defs _ _).mono
      (fun r h c => ⟨(h c).1.trans ((Cert.ReferenceIdeal.Read.result_eq (launchContents m' c)).trans ?_), (h c).2⟩)
      (Cert.ReferenceIdeal.Value.run (F := Ideal) m' ρ')
    have h0 : Cert.ReferenceIdeal.Read.masks (launchContents m' c) = Cert.KernelIdeal.KernelValue.imageMasks m c :=
      funext fun b => funext fun j => funext fun r => funext fun k => congrFun (hagree c).1 (ix4 b j r k)
    have h1 : Cert.ReferenceIdeal.Read.points (launchContents m' c) = Cert.KernelIdeal.KernelValue.imagePoints m c :=
      funext fun b => funext fun j => funext fun r => funext fun k => congrFun (hagree c).2 (ix4 b j r k)
    rw [h0, h1]
    rfl

theorem claim : Cert.Claim := ⟨Cert.Kernel.Gen.facts, Cert.KernelIdeal.Gen.facts, Cert.ReferenceIdeal.Gen.facts,
  frame_kernel, frame_ideal, frame_reference, trivial, algebraic⟩

end Cert.Proof

end
